-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![1, 2048, 32, 128]⟩ ⟨4, ![1, 2048, 64, 128]⟩ (Layout.meshBlock [2, 2] ![[], [], [1], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![4096, 8192]⟩ ⟨2, ![8192, 8192]⟩ (Layout.meshBlock [2, 2] ![[1], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨3, ![1, 1024, 8192]⟩ ⟨3, ![1, 2048, 8192]⟩ (Layout.meshBlock [2, 2] ![[], [1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x32x128 : Shape := ⟨4, ![1, 2048, 32, 128]⟩
abbrev S4096x8192 : Shape := ⟨2, ![4096, 8192]⟩
abbrev S2048x4096 : Shape := ⟨2, ![2048, 4096]⟩
abbrev S1x1024x8192 : Shape := ⟨3, ![1, 1024, 8192]⟩
abbrev S2x4096x256 : Shape := ⟨3, ![2, 4096, 256]⟩
abbrev S2x1024x1024 : Shape := ⟨3, ![2, 1024, 1024]⟩
abbrev S8x1024x1024 : Shape := ⟨3, ![8, 1024, 1024]⟩
abbrev S2 : Shape := ⟨1, ![2]⟩
abbrev S8 : Shape := ⟨1, ![8]⟩
abbrev S1 : Shape := ⟨1, ![1]⟩
abbrev S_ : Shape := ⟨0, ![]⟩
abbrev S1x4096x256 : Shape := ⟨3, ![1, 4096, 256]⟩
abbrev S4096x256 : Shape := ⟨2, ![4096, 256]⟩
abbrev S1024x4096 : Shape := ⟨2, ![1024, 4096]⟩
abbrev S1024x256 : Shape := ⟨2, ![1024, 256]⟩
abbrev S1x1024x256 : Shape := ⟨3, ![1, 1024, 256]⟩
abbrev S1x1024x1024 : Shape := ⟨3, ![1, 1024, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S1x2048x32x128, .bf16⟩
  | .hbm, ⟨1, _⟩ => ⟨S4096x8192, .f32⟩
  | .hbm, ⟨2, _⟩ => ⟨S2048x4096, .bf16⟩
  | .hbm, ⟨3, _⟩ => ⟨S1x1024x8192, .bf16⟩
  | .local _ .vmem, ⟨0, _⟩ => ⟨S2048x4096, .bf16⟩
  | .local _ .vmem, ⟨1, _⟩ => ⟨S1x1024x8192, .bf16⟩
  | .local _ .vmem, ⟨2, _⟩ => ⟨S2x4096x256, .f32⟩
  | .local _ .vmem, ⟨3, _⟩ => ⟨S2x1024x1024, .bf16⟩
  | .local _ .vmem, ⟨4, _⟩ => ⟨S8x1024x1024, .bf16⟩
  | _, _ => ⟨S1x2048x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  (ofTc nBuf bufTy 1 14 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_12 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_11 : BitVec 32 := 2#32
  let v16 : BitVec 32 := Scalar.muli v2 c2_i32_11
  let v17 : BitVec 32 := Scalar.addi c0_i32_12 v16
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_13 : BitVec 32 := 1#32
  let v18 : BitVec 32 := Scalar.muli v6 c1_i32_13
  let v19 : BitVec 32 := Scalar.addi v17 v18
  v19.toNat
@[reducible] def k0_t1_loop : Scf.Loop 32 :=
  let c0_i32_15 : BitVec 32 := 0#32
  let c4_i32 : BitVec 32 := 4#32
  let v20 : BitVec 32 := Scalar.addi c0_i32_15 c4_i32
  let c1_i32_16 : BitVec 32 := 1#32
  ⟨c0_i32_15, v20, c1_i32_16⟩
def k0_cond1 (k0_t1 : Fin k0_t1_loop.trips) : BitVec 1 :=
  let c0_i32_15 : BitVec 32 := 0#32
  let c1_i32_16 : BitVec 32 := 1#32
  let arg9 : BitVec 32 := Scf.iv c0_i32_15 c1_i32_16 k0_t1
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off1 (k0_t1 : Fin k0_t1_loop.trips) : Fin 1 → Nat :=
  let c0_i32_15 : BitVec 32 := 0#32
  let c1_i32_16 : BitVec 32 := 1#32
  let arg9 : BitVec 32 := Scf.iv c0_i32_15 c1_i32_16 k0_t1
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off2 (k0_t1 : Fin k0_t1_loop.trips) : Fin 3 → Nat :=
  let c0_i32_15 : BitVec 32 := 0#32
  let c1_i32_16 : BitVec 32 := 1#32
  let arg9 : BitVec 32 := Scf.iv c0_i32_15 c1_i32_16 k0_t1
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off3 (k0_t1 : Fin k0_t1_loop.trips) : Fin 2 → Nat :=
  let c0_i32_366 : BitVec 32 := 0#32
  let c0_i32_15 : BitVec 32 := 0#32
  let c1_i32_16 : BitVec 32 := 1#32
  let arg9 : BitVec 32 := Scf.iv c0_i32_15 c1_i32_16 k0_t1
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off4 (k0_t1 : Fin k0_t1_loop.trips) : Fin 1 → Nat :=
  let c0_i32_15 : BitVec 32 := 0#32
  let c1_i32_16 : BitVec 32 := 1#32
  let arg9 : BitVec 32 := Scf.iv c0_i32_15 c1_i32_16 k0_t1
  let c2_i32_341 : BitVec 32 := 2#32
  let v316 : BitVec 32 := Scalar.remsi arg9 c2_i32_341
  ![v316.toNat]
def k0_off5 (k0_t1 : Fin k0_t1_loop.trips) : Fin 3 → Nat :=
  let c0_i32_15 : BitVec 32 := 0#32
  let c1_i32_16 : BitVec 32 := 1#32
  let arg9 : BitVec 32 := Scf.iv c0_i32_15 c1_i32_16 k0_t1
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off6 (k0_t1 : Fin k0_t1_loop.trips) : Fin 2 → Nat :=
  let c0_i32_349 : BitVec 32 := 0#32
  let c0_i32_15 : BitVec 32 := 0#32
  let c1_i32_16 : BitVec 32 := 1#32
  let arg9 : BitVec 32 := Scf.iv c0_i32_15 c1_i32_16 k0_t1
  let c256_i32 : BitVec 32 := 256#32
  let v324 : BitVec 32 := Scalar.muli arg9 c256_i32
  ![0, v324.toNat]
def k0_off7 (k0_t1 : Fin k0_t1_loop.trips) : Fin 3 → Nat :=
  let c0_i32_15 : BitVec 32 := 0#32
  let c1_i32_16 : BitVec 32 := 1#32
  let arg9 : BitVec 32 := Scf.iv c0_i32_15 c1_i32_16 k0_t1
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off8 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off9 (k0_t1 : Fin k0_t1_loop.trips) : Fin 3 → Nat :=
  let c0_i32_15 : BitVec 32 := 0#32
  let c1_i32_16 : BitVec 32 := 1#32
  let arg9 : BitVec 32 := Scf.iv c0_i32_15 c1_i32_16 k0_t1
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off10 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off11 (k0_t1 : Fin k0_t1_loop.trips) : Fin 3 → Nat :=
  let c0_358 : Index := 0#32
  let c0_359 : Index := 0#32
  let c0_i32_15 : BitVec 32 := 0#32
  let c1_i32_16 : BitVec 32 := 1#32
  let arg9 : BitVec 32 := Scf.iv c0_i32_15 c1_i32_16 k0_t1
  let c256_i32_357 : BitVec 32 := 256#32
  let v350 : BitVec 32 := Scalar.muli arg9 c256_i32_357
  let v351 : Index := Scalar.indexCast v350
  ![0, 0, v351.toNat]
def k0_dev2 (d0 : Dev nD) : Nat :=
  let c0_i32_23 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_22 : BitVec 32 := 2#32
  let v21 : BitVec 32 := Scalar.muli v2 c2_i32_22
  let v22 : BitVec 32 := Scalar.addi c0_i32_23 v21
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_24 : BitVec 32 := 1#32
  let v23 : BitVec 32 := Scalar.muli v6 c1_i32_24
  let v24 : BitVec 32 := Scalar.addi v22 v23
  v24.toNat
@[reducible] def k0_t2_loop : Scf.Loop 32 :=
  let c4_i32_29 : BitVec 32 := 4#32
  let c4_i32_30 : BitVec 32 := 4#32
  let v33 : BitVec 32 := Scalar.addi c4_i32_29 c4_i32_30
  let c1_i32_31 : BitVec 32 := 1#32
  ⟨c4_i32_29, v33, c1_i32_31⟩
def k0_cond2 (k0_t2 : Fin k0_t2_loop.trips) : BitVec 1 :=
  let c4_i32_29 : BitVec 32 := 4#32
  let c1_i32_31 : BitVec 32 := 1#32
  let arg9 : BitVec 32 := Scf.iv c4_i32_29 c1_i32_31 k0_t2
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off12 (k0_t2 : Fin k0_t2_loop.trips) : Fin 1 → Nat :=
  let c4_i32_29 : BitVec 32 := 4#32
  let c1_i32_31 : BitVec 32 := 1#32
  let arg9 : BitVec 32 := Scf.iv c4_i32_29 c1_i32_31 k0_t2
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off13 (k0_t2 : Fin k0_t2_loop.trips) : Fin 3 → Nat :=
  let c4_i32_29 : BitVec 32 := 4#32
  let c1_i32_31 : BitVec 32 := 1#32
  let arg9 : BitVec 32 := Scf.iv c4_i32_29 c1_i32_31 k0_t2
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off14 (k0_t2 : Fin k0_t2_loop.trips) : Fin 2 → Nat :=
  let c0_i32_366 : BitVec 32 := 0#32
  let c4_i32_29 : BitVec 32 := 4#32
  let c1_i32_31 : BitVec 32 := 1#32
  let arg9 : BitVec 32 := Scf.iv c4_i32_29 c1_i32_31 k0_t2
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off15 (k0_t2 : Fin k0_t2_loop.trips) : Fin 1 → Nat :=
  let c4_i32_29 : BitVec 32 := 4#32
  let c1_i32_31 : BitVec 32 := 1#32
  let arg9 : BitVec 32 := Scf.iv c4_i32_29 c1_i32_31 k0_t2
  let c2_i32_341 : BitVec 32 := 2#32
  let v316 : BitVec 32 := Scalar.remsi arg9 c2_i32_341
  ![v316.toNat]
def k0_off16 (k0_t2 : Fin k0_t2_loop.trips) : Fin 3 → Nat :=
  let c4_i32_29 : BitVec 32 := 4#32
  let c1_i32_31 : BitVec 32 := 1#32
  let arg9 : BitVec 32 := Scf.iv c4_i32_29 c1_i32_31 k0_t2
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off17 (k0_t2 : Fin k0_t2_loop.trips) : Fin 2 → Nat :=
  let c0_i32_349 : BitVec 32 := 0#32
  let c4_i32_29 : BitVec 32 := 4#32
  let c1_i32_31 : BitVec 32 := 1#32
  let arg9 : BitVec 32 := Scf.iv c4_i32_29 c1_i32_31 k0_t2
  let c256_i32 : BitVec 32 := 256#32
  let v324 : BitVec 32 := Scalar.muli arg9 c256_i32
  ![0, v324.toNat]
def k0_off18 (k0_t2 : Fin k0_t2_loop.trips) : Fin 3 → Nat :=
  let c4_i32_29 : BitVec 32 := 4#32
  let c1_i32_31 : BitVec 32 := 1#32
  let arg9 : BitVec 32 := Scf.iv c4_i32_29 c1_i32_31 k0_t2
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off19 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off20 (k0_t2 : Fin k0_t2_loop.trips) : Fin 3 → Nat :=
  let c4_i32_29 : BitVec 32 := 4#32
  let c1_i32_31 : BitVec 32 := 1#32
  let arg9 : BitVec 32 := Scf.iv c4_i32_29 c1_i32_31 k0_t2
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off21 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off22 (k0_t2 : Fin k0_t2_loop.trips) : Fin 3 → Nat :=
  let c0_358 : Index := 0#32
  let c0_359 : Index := 0#32
  let c4_i32_29 : BitVec 32 := 4#32
  let c1_i32_31 : BitVec 32 := 1#32
  let arg9 : BitVec 32 := Scf.iv c4_i32_29 c1_i32_31 k0_t2
  let c256_i32_357 : BitVec 32 := 256#32
  let v350 : BitVec 32 := Scalar.muli arg9 c256_i32_357
  let v351 : Index := Scalar.indexCast v350
  ![0, 0, v351.toNat]
def k0_dev3 (d0 : Dev nD) : Nat :=
  let c0_i32_38 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_37 : BitVec 32 := 2#32
  let v34 : BitVec 32 := Scalar.muli v2 c2_i32_37
  let v35 : BitVec 32 := Scalar.addi c0_i32_38 v34
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_39 : BitVec 32 := 1#32
  let v36 : BitVec 32 := Scalar.muli v6 c1_i32_39
  let v37 : BitVec 32 := Scalar.addi v35 v36
  v37.toNat
@[reducible] def k0_t3_loop : Scf.Loop 32 :=
  let c8_i32 : BitVec 32 := 8#32
  let c4_i32_72 : BitVec 32 := 4#32
  let v70 : BitVec 32 := Scalar.addi c8_i32 c4_i32_72
  let c1_i32_73 : BitVec 32 := 1#32
  ⟨c8_i32, v70, c1_i32_73⟩
def k0_cond3 (k0_t3 : Fin k0_t3_loop.trips) : BitVec 1 :=
  let c8_i32 : BitVec 32 := 8#32
  let c1_i32_73 : BitVec 32 := 1#32
  let arg9 : BitVec 32 := Scf.iv c8_i32 c1_i32_73 k0_t3
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off23 (k0_t3 : Fin k0_t3_loop.trips) : Fin 1 → Nat :=
  let c8_i32 : BitVec 32 := 8#32
  let c1_i32_73 : BitVec 32 := 1#32
  let arg9 : BitVec 32 := Scf.iv c8_i32 c1_i32_73 k0_t3
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off24 (k0_t3 : Fin k0_t3_loop.trips) : Fin 3 → Nat :=
  let c8_i32 : BitVec 32 := 8#32
  let c1_i32_73 : BitVec 32 := 1#32
  let arg9 : BitVec 32 := Scf.iv c8_i32 c1_i32_73 k0_t3
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off25 (k0_t3 : Fin k0_t3_loop.trips) : Fin 2 → Nat :=
  let c0_i32_366 : BitVec 32 := 0#32
  let c8_i32 : BitVec 32 := 8#32
  let c1_i32_73 : BitVec 32 := 1#32
  let arg9 : BitVec 32 := Scf.iv c8_i32 c1_i32_73 k0_t3
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off26 (k0_t3 : Fin k0_t3_loop.trips) : Fin 1 → Nat :=
  let c8_i32 : BitVec 32 := 8#32
  let c1_i32_73 : BitVec 32 := 1#32
  let arg9 : BitVec 32 := Scf.iv c8_i32 c1_i32_73 k0_t3
  let c2_i32_341 : BitVec 32 := 2#32
  let v316 : BitVec 32 := Scalar.remsi arg9 c2_i32_341
  ![v316.toNat]
def k0_off27 (k0_t3 : Fin k0_t3_loop.trips) : Fin 3 → Nat :=
  let c8_i32 : BitVec 32 := 8#32
  let c1_i32_73 : BitVec 32 := 1#32
  let arg9 : BitVec 32 := Scf.iv c8_i32 c1_i32_73 k0_t3
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off28 (k0_t3 : Fin k0_t3_loop.trips) : Fin 2 → Nat :=
  let c0_i32_349 : BitVec 32 := 0#32
  let c8_i32 : BitVec 32 := 8#32
  let c1_i32_73 : BitVec 32 := 1#32
  let arg9 : BitVec 32 := Scf.iv c8_i32 c1_i32_73 k0_t3
  let c256_i32 : BitVec 32 := 256#32
  let v324 : BitVec 32 := Scalar.muli arg9 c256_i32
  ![0, v324.toNat]
def k0_off29 (k0_t3 : Fin k0_t3_loop.trips) : Fin 3 → Nat :=
  let c8_i32 : BitVec 32 := 8#32
  let c1_i32_73 : BitVec 32 := 1#32
  let arg9 : BitVec 32 := Scf.iv c8_i32 c1_i32_73 k0_t3
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off30 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off31 (k0_t3 : Fin k0_t3_loop.trips) : Fin 3 → Nat :=
  let c8_i32 : BitVec 32 := 8#32
  let c1_i32_73 : BitVec 32 := 1#32
  let arg9 : BitVec 32 := Scf.iv c8_i32 c1_i32_73 k0_t3
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off32 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off33 (k0_t3 : Fin k0_t3_loop.trips) : Fin 3 → Nat :=
  let c0_358 : Index := 0#32
  let c0_359 : Index := 0#32
  let c8_i32 : BitVec 32 := 8#32
  let c1_i32_73 : BitVec 32 := 1#32
  let arg9 : BitVec 32 := Scf.iv c8_i32 c1_i32_73 k0_t3
  let c256_i32_357 : BitVec 32 := 256#32
  let v350 : BitVec 32 := Scalar.muli arg9 c256_i32_357
  let v351 : Index := Scalar.indexCast v350
  ![0, 0, v351.toNat]
def k0_dev4 (d0 : Dev nD) : Nat :=
  let c0_i32_80 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_79 : BitVec 32 := 2#32
  let v71 : BitVec 32 := Scalar.muli v2 c2_i32_79
  let v72 : BitVec 32 := Scalar.addi c0_i32_80 v71
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_81 : BitVec 32 := 1#32
  let v73 : BitVec 32 := Scalar.muli v6 c1_i32_81
  let v74 : BitVec 32 := Scalar.addi v72 v73
  v74.toNat
@[reducible] def k0_t4_loop : Scf.Loop 32 :=
  let c12_i32 : BitVec 32 := 12#32
  let c4_i32_113 : BitVec 32 := 4#32
  let v107 : BitVec 32 := Scalar.addi c12_i32 c4_i32_113
  let c1_i32_114 : BitVec 32 := 1#32
  ⟨c12_i32, v107, c1_i32_114⟩
def k0_cond4 (k0_t4 : Fin k0_t4_loop.trips) : BitVec 1 :=
  let c12_i32 : BitVec 32 := 12#32
  let c1_i32_114 : BitVec 32 := 1#32
  let arg9 : BitVec 32 := Scf.iv c12_i32 c1_i32_114 k0_t4
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off34 (k0_t4 : Fin k0_t4_loop.trips) : Fin 1 → Nat :=
  let c12_i32 : BitVec 32 := 12#32
  let c1_i32_114 : BitVec 32 := 1#32
  let arg9 : BitVec 32 := Scf.iv c12_i32 c1_i32_114 k0_t4
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off35 (k0_t4 : Fin k0_t4_loop.trips) : Fin 3 → Nat :=
  let c12_i32 : BitVec 32 := 12#32
  let c1_i32_114 : BitVec 32 := 1#32
  let arg9 : BitVec 32 := Scf.iv c12_i32 c1_i32_114 k0_t4
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off36 (k0_t4 : Fin k0_t4_loop.trips) : Fin 2 → Nat :=
  let c0_i32_366 : BitVec 32 := 0#32
  let c12_i32 : BitVec 32 := 12#32
  let c1_i32_114 : BitVec 32 := 1#32
  let arg9 : BitVec 32 := Scf.iv c12_i32 c1_i32_114 k0_t4
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off37 (k0_t4 : Fin k0_t4_loop.trips) : Fin 1 → Nat :=
  let c12_i32 : BitVec 32 := 12#32
  let c1_i32_114 : BitVec 32 := 1#32
  let arg9 : BitVec 32 := Scf.iv c12_i32 c1_i32_114 k0_t4
  let c2_i32_341 : BitVec 32 := 2#32
  let v316 : BitVec 32 := Scalar.remsi arg9 c2_i32_341
  ![v316.toNat]
def k0_off38 (k0_t4 : Fin k0_t4_loop.trips) : Fin 3 → Nat :=
  let c12_i32 : BitVec 32 := 12#32
  let c1_i32_114 : BitVec 32 := 1#32
  let arg9 : BitVec 32 := Scf.iv c12_i32 c1_i32_114 k0_t4
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off39 (k0_t4 : Fin k0_t4_loop.trips) : Fin 2 → Nat :=
  let c0_i32_349 : BitVec 32 := 0#32
  let c12_i32 : BitVec 32 := 12#32
  let c1_i32_114 : BitVec 32 := 1#32
  let arg9 : BitVec 32 := Scf.iv c12_i32 c1_i32_114 k0_t4
  let c256_i32 : BitVec 32 := 256#32
  let v324 : BitVec 32 := Scalar.muli arg9 c256_i32
  ![0, v324.toNat]
def k0_off40 (k0_t4 : Fin k0_t4_loop.trips) : Fin 3 → Nat :=
  let c12_i32 : BitVec 32 := 12#32
  let c1_i32_114 : BitVec 32 := 1#32
  let arg9 : BitVec 32 := Scf.iv c12_i32 c1_i32_114 k0_t4
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off41 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off42 (k0_t4 : Fin k0_t4_loop.trips) : Fin 3 → Nat :=
  let c12_i32 : BitVec 32 := 12#32
  let c1_i32_114 : BitVec 32 := 1#32
  let arg9 : BitVec 32 := Scf.iv c12_i32 c1_i32_114 k0_t4
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off43 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off44 (k0_t4 : Fin k0_t4_loop.trips) : Fin 3 → Nat :=
  let c0_358 : Index := 0#32
  let c0_359 : Index := 0#32
  let c12_i32 : BitVec 32 := 12#32
  let c1_i32_114 : BitVec 32 := 1#32
  let arg9 : BitVec 32 := Scf.iv c12_i32 c1_i32_114 k0_t4
  let c256_i32_357 : BitVec 32 := 256#32
  let v350 : BitVec 32 := Scalar.muli arg9 c256_i32_357
  let v351 : Index := Scalar.indexCast v350
  ![0, 0, v351.toNat]
def k0_dev5 (d0 : Dev nD) : Nat :=
  let c0_i32_120 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_119 : BitVec 32 := 2#32
  let v108 : BitVec 32 := Scalar.muli v2 c2_i32_119
  let v109 : BitVec 32 := Scalar.addi c0_i32_120 v108
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_121 : BitVec 32 := 1#32
  let v110 : BitVec 32 := Scalar.muli v6 c1_i32_121
  let v111 : BitVec 32 := Scalar.addi v109 v110
  v111.toNat
@[reducible] def k0_t5_loop : Scf.Loop 32 :=
  let c16_i32 : BitVec 32 := 16#32
  let c4_i32_153 : BitVec 32 := 4#32
  let v144 : BitVec 32 := Scalar.addi c16_i32 c4_i32_153
  let c1_i32_154 : BitVec 32 := 1#32
  ⟨c16_i32, v144, c1_i32_154⟩
def k0_cond5 (k0_t5 : Fin k0_t5_loop.trips) : BitVec 1 :=
  let c16_i32 : BitVec 32 := 16#32
  let c1_i32_154 : BitVec 32 := 1#32
  let arg9 : BitVec 32 := Scf.iv c16_i32 c1_i32_154 k0_t5
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off45 (k0_t5 : Fin k0_t5_loop.trips) : Fin 1 → Nat :=
  let c16_i32 : BitVec 32 := 16#32
  let c1_i32_154 : BitVec 32 := 1#32
  let arg9 : BitVec 32 := Scf.iv c16_i32 c1_i32_154 k0_t5
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off46 (k0_t5 : Fin k0_t5_loop.trips) : Fin 3 → Nat :=
  let c16_i32 : BitVec 32 := 16#32
  let c1_i32_154 : BitVec 32 := 1#32
  let arg9 : BitVec 32 := Scf.iv c16_i32 c1_i32_154 k0_t5
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off47 (k0_t5 : Fin k0_t5_loop.trips) : Fin 2 → Nat :=
  let c0_i32_366 : BitVec 32 := 0#32
  let c16_i32 : BitVec 32 := 16#32
  let c1_i32_154 : BitVec 32 := 1#32
  let arg9 : BitVec 32 := Scf.iv c16_i32 c1_i32_154 k0_t5
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off48 (k0_t5 : Fin k0_t5_loop.trips) : Fin 1 → Nat :=
  let c16_i32 : BitVec 32 := 16#32
  let c1_i32_154 : BitVec 32 := 1#32
  let arg9 : BitVec 32 := Scf.iv c16_i32 c1_i32_154 k0_t5
  let c2_i32_341 : BitVec 32 := 2#32
  let v316 : BitVec 32 := Scalar.remsi arg9 c2_i32_341
  ![v316.toNat]
def k0_off49 (k0_t5 : Fin k0_t5_loop.trips) : Fin 3 → Nat :=
  let c16_i32 : BitVec 32 := 16#32
  let c1_i32_154 : BitVec 32 := 1#32
  let arg9 : BitVec 32 := Scf.iv c16_i32 c1_i32_154 k0_t5
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off50 (k0_t5 : Fin k0_t5_loop.trips) : Fin 2 → Nat :=
  let c0_i32_349 : BitVec 32 := 0#32
  let c16_i32 : BitVec 32 := 16#32
  let c1_i32_154 : BitVec 32 := 1#32
  let arg9 : BitVec 32 := Scf.iv c16_i32 c1_i32_154 k0_t5
  let c256_i32 : BitVec 32 := 256#32
  let v324 : BitVec 32 := Scalar.muli arg9 c256_i32
  ![0, v324.toNat]
def k0_off51 (k0_t5 : Fin k0_t5_loop.trips) : Fin 3 → Nat :=
  let c16_i32 : BitVec 32 := 16#32
  let c1_i32_154 : BitVec 32 := 1#32
  let arg9 : BitVec 32 := Scf.iv c16_i32 c1_i32_154 k0_t5
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off52 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off53 (k0_t5 : Fin k0_t5_loop.trips) : Fin 3 → Nat :=
  let c16_i32 : BitVec 32 := 16#32
  let c1_i32_154 : BitVec 32 := 1#32
  let arg9 : BitVec 32 := Scf.iv c16_i32 c1_i32_154 k0_t5
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off54 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off55 (k0_t5 : Fin k0_t5_loop.trips) : Fin 3 → Nat :=
  let c0_358 : Index := 0#32
  let c0_359 : Index := 0#32
  let c16_i32 : BitVec 32 := 16#32
  let c1_i32_154 : BitVec 32 := 1#32
  let arg9 : BitVec 32 := Scf.iv c16_i32 c1_i32_154 k0_t5
  let c256_i32_357 : BitVec 32 := 256#32
  let v350 : BitVec 32 := Scalar.muli arg9 c256_i32_357
  let v351 : Index := Scalar.indexCast v350
  ![0, 0, v351.toNat]
def k0_dev6 (d0 : Dev nD) : Nat :=
  let c0_i32_161 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_160 : BitVec 32 := 2#32
  let v145 : BitVec 32 := Scalar.muli v2 c2_i32_160
  let v146 : BitVec 32 := Scalar.addi c0_i32_161 v145
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_162 : BitVec 32 := 1#32
  let v147 : BitVec 32 := Scalar.muli v6 c1_i32_162
  let v148 : BitVec 32 := Scalar.addi v146 v147
  v148.toNat
@[reducible] def k0_t6_loop : Scf.Loop 32 :=
  let c20_i32 : BitVec 32 := 20#32
  let c4_i32_194 : BitVec 32 := 4#32
  let v181 : BitVec 32 := Scalar.addi c20_i32 c4_i32_194
  let c1_i32_195 : BitVec 32 := 1#32
  ⟨c20_i32, v181, c1_i32_195⟩
def k0_cond6 (k0_t6 : Fin k0_t6_loop.trips) : BitVec 1 :=
  let c20_i32 : BitVec 32 := 20#32
  let c1_i32_195 : BitVec 32 := 1#32
  let arg9 : BitVec 32 := Scf.iv c20_i32 c1_i32_195 k0_t6
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off56 (k0_t6 : Fin k0_t6_loop.trips) : Fin 1 → Nat :=
  let c20_i32 : BitVec 32 := 20#32
  let c1_i32_195 : BitVec 32 := 1#32
  let arg9 : BitVec 32 := Scf.iv c20_i32 c1_i32_195 k0_t6
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off57 (k0_t6 : Fin k0_t6_loop.trips) : Fin 3 → Nat :=
  let c20_i32 : BitVec 32 := 20#32
  let c1_i32_195 : BitVec 32 := 1#32
  let arg9 : BitVec 32 := Scf.iv c20_i32 c1_i32_195 k0_t6
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off58 (k0_t6 : Fin k0_t6_loop.trips) : Fin 2 → Nat :=
  let c0_i32_366 : BitVec 32 := 0#32
  let c20_i32 : BitVec 32 := 20#32
  let c1_i32_195 : BitVec 32 := 1#32
  let arg9 : BitVec 32 := Scf.iv c20_i32 c1_i32_195 k0_t6
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off59 (k0_t6 : Fin k0_t6_loop.trips) : Fin 1 → Nat :=
  let c20_i32 : BitVec 32 := 20#32
  let c1_i32_195 : BitVec 32 := 1#32
  let arg9 : BitVec 32 := Scf.iv c20_i32 c1_i32_195 k0_t6
  let c2_i32_341 : BitVec 32 := 2#32
  let v316 : BitVec 32 := Scalar.remsi arg9 c2_i32_341
  ![v316.toNat]
def k0_off60 (k0_t6 : Fin k0_t6_loop.trips) : Fin 3 → Nat :=
  let c20_i32 : BitVec 32 := 20#32
  let c1_i32_195 : BitVec 32 := 1#32
  let arg9 : BitVec 32 := Scf.iv c20_i32 c1_i32_195 k0_t6
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off61 (k0_t6 : Fin k0_t6_loop.trips) : Fin 2 → Nat :=
  let c0_i32_349 : BitVec 32 := 0#32
  let c20_i32 : BitVec 32 := 20#32
  let c1_i32_195 : BitVec 32 := 1#32
  let arg9 : BitVec 32 := Scf.iv c20_i32 c1_i32_195 k0_t6
  let c256_i32 : BitVec 32 := 256#32
  let v324 : BitVec 32 := Scalar.muli arg9 c256_i32
  ![0, v324.toNat]
def k0_off62 (k0_t6 : Fin k0_t6_loop.trips) : Fin 3 → Nat :=
  let c20_i32 : BitVec 32 := 20#32
  let c1_i32_195 : BitVec 32 := 1#32
  let arg9 : BitVec 32 := Scf.iv c20_i32 c1_i32_195 k0_t6
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off63 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off64 (k0_t6 : Fin k0_t6_loop.trips) : Fin 3 → Nat :=
  let c20_i32 : BitVec 32 := 20#32
  let c1_i32_195 : BitVec 32 := 1#32
  let arg9 : BitVec 32 := Scf.iv c20_i32 c1_i32_195 k0_t6
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off65 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off66 (k0_t6 : Fin k0_t6_loop.trips) : Fin 3 → Nat :=
  let c0_358 : Index := 0#32
  let c0_359 : Index := 0#32
  let c20_i32 : BitVec 32 := 20#32
  let c1_i32_195 : BitVec 32 := 1#32
  let arg9 : BitVec 32 := Scf.iv c20_i32 c1_i32_195 k0_t6
  let c256_i32_357 : BitVec 32 := 256#32
  let v350 : BitVec 32 := Scalar.muli arg9 c256_i32_357
  let v351 : Index := Scalar.indexCast v350
  ![0, 0, v351.toNat]
def k0_dev7 (d0 : Dev nD) : Nat :=
  let c0_i32_201 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_200 : BitVec 32 := 2#32
  let v182 : BitVec 32 := Scalar.muli v2 c2_i32_200
  let v183 : BitVec 32 := Scalar.addi c0_i32_201 v182
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_202 : BitVec 32 := 1#32
  let v184 : BitVec 32 := Scalar.muli v6 c1_i32_202
  let v185 : BitVec 32 := Scalar.addi v183 v184
  v185.toNat
@[reducible] def k0_t7_loop : Scf.Loop 32 :=
  let c24_i32 : BitVec 32 := 24#32
  let c4_i32_234 : BitVec 32 := 4#32
  let v218 : BitVec 32 := Scalar.addi c24_i32 c4_i32_234
  let c1_i32_235 : BitVec 32 := 1#32
  ⟨c24_i32, v218, c1_i32_235⟩
def k0_cond7 (k0_t7 : Fin k0_t7_loop.trips) : BitVec 1 :=
  let c24_i32 : BitVec 32 := 24#32
  let c1_i32_235 : BitVec 32 := 1#32
  let arg9 : BitVec 32 := Scf.iv c24_i32 c1_i32_235 k0_t7
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off67 (k0_t7 : Fin k0_t7_loop.trips) : Fin 1 → Nat :=
  let c24_i32 : BitVec 32 := 24#32
  let c1_i32_235 : BitVec 32 := 1#32
  let arg9 : BitVec 32 := Scf.iv c24_i32 c1_i32_235 k0_t7
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off68 (k0_t7 : Fin k0_t7_loop.trips) : Fin 3 → Nat :=
  let c24_i32 : BitVec 32 := 24#32
  let c1_i32_235 : BitVec 32 := 1#32
  let arg9 : BitVec 32 := Scf.iv c24_i32 c1_i32_235 k0_t7
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off69 (k0_t7 : Fin k0_t7_loop.trips) : Fin 2 → Nat :=
  let c0_i32_366 : BitVec 32 := 0#32
  let c24_i32 : BitVec 32 := 24#32
  let c1_i32_235 : BitVec 32 := 1#32
  let arg9 : BitVec 32 := Scf.iv c24_i32 c1_i32_235 k0_t7
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off70 (k0_t7 : Fin k0_t7_loop.trips) : Fin 1 → Nat :=
  let c24_i32 : BitVec 32 := 24#32
  let c1_i32_235 : BitVec 32 := 1#32
  let arg9 : BitVec 32 := Scf.iv c24_i32 c1_i32_235 k0_t7
  let c2_i32_341 : BitVec 32 := 2#32
  let v316 : BitVec 32 := Scalar.remsi arg9 c2_i32_341
  ![v316.toNat]
def k0_off71 (k0_t7 : Fin k0_t7_loop.trips) : Fin 3 → Nat :=
  let c24_i32 : BitVec 32 := 24#32
  let c1_i32_235 : BitVec 32 := 1#32
  let arg9 : BitVec 32 := Scf.iv c24_i32 c1_i32_235 k0_t7
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off72 (k0_t7 : Fin k0_t7_loop.trips) : Fin 2 → Nat :=
  let c0_i32_349 : BitVec 32 := 0#32
  let c24_i32 : BitVec 32 := 24#32
  let c1_i32_235 : BitVec 32 := 1#32
  let arg9 : BitVec 32 := Scf.iv c24_i32 c1_i32_235 k0_t7
  let c256_i32 : BitVec 32 := 256#32
  let v324 : BitVec 32 := Scalar.muli arg9 c256_i32
  ![0, v324.toNat]
def k0_off73 (k0_t7 : Fin k0_t7_loop.trips) : Fin 3 → Nat :=
  let c24_i32 : BitVec 32 := 24#32
  let c1_i32_235 : BitVec 32 := 1#32
  let arg9 : BitVec 32 := Scf.iv c24_i32 c1_i32_235 k0_t7
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off74 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off75 (k0_t7 : Fin k0_t7_loop.trips) : Fin 3 → Nat :=
  let c24_i32 : BitVec 32 := 24#32
  let c1_i32_235 : BitVec 32 := 1#32
  let arg9 : BitVec 32 := Scf.iv c24_i32 c1_i32_235 k0_t7
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off76 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off77 (k0_t7 : Fin k0_t7_loop.trips) : Fin 3 → Nat :=
  let c0_358 : Index := 0#32
  let c0_359 : Index := 0#32
  let c24_i32 : BitVec 32 := 24#32
  let c1_i32_235 : BitVec 32 := 1#32
  let arg9 : BitVec 32 := Scf.iv c24_i32 c1_i32_235 k0_t7
  let c256_i32_357 : BitVec 32 := 256#32
  let v350 : BitVec 32 := Scalar.muli arg9 c256_i32_357
  let v351 : Index := Scalar.indexCast v350
  ![0, 0, v351.toNat]
def k0_dev8 (d0 : Dev nD) : Nat :=
  let c0_i32_241 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_240 : BitVec 32 := 2#32
  let v219 : BitVec 32 := Scalar.muli v2 c2_i32_240
  let v220 : BitVec 32 := Scalar.addi c0_i32_241 v219
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_242 : BitVec 32 := 1#32
  let v221 : BitVec 32 := Scalar.muli v6 c1_i32_242
  let v222 : BitVec 32 := Scalar.addi v220 v221
  v222.toNat
@[reducible] def k0_t8_loop : Scf.Loop 32 :=
  let c28_i32 : BitVec 32 := 28#32
  let c4_i32_274 : BitVec 32 := 4#32
  let v255 : BitVec 32 := Scalar.addi c28_i32 c4_i32_274
  let c1_i32_275 : BitVec 32 := 1#32
  ⟨c28_i32, v255, c1_i32_275⟩
def k0_cond8 (k0_t8 : Fin k0_t8_loop.trips) : BitVec 1 :=
  let c28_i32 : BitVec 32 := 28#32
  let c1_i32_275 : BitVec 32 := 1#32
  let arg9 : BitVec 32 := Scf.iv c28_i32 c1_i32_275 k0_t8
  let c1_i32_345 : BitVec 32 := 1#32
  let v320 : BitVec 32 := Scalar.addi arg9 c1_i32_345
  let c32_i32 : BitVec 32 := 32#32
  let v321 : BitVec 1 := Scalar.cmpi .slt v320 c32_i32
  let v322 : BitVec 32 := Scalar.extui v321
  let c0_i32_346 : BitVec 32 := 0#32
  let v323 : BitVec 1 := Scalar.cmpi .ne v322 c0_i32_346
  v323

def k0_off78 (k0_t8 : Fin k0_t8_loop.trips) : Fin 1 → Nat :=
  let c28_i32 : BitVec 32 := 28#32
  let c1_i32_275 : BitVec 32 := 1#32
  let arg9 : BitVec 32 := Scf.iv c28_i32 c1_i32_275 k0_t8
  let c1_i32_361 : BitVec 32 := 1#32
  let v356 : BitVec 32 := Scalar.addi arg9 c1_i32_361
  let c2_i32_362 : BitVec 32 := 2#32
  let v357 : BitVec 32 := Scalar.remsi v356 c2_i32_362
  ![v357.toNat]
def k0_off79 (k0_t8 : Fin k0_t8_loop.trips) : Fin 3 → Nat :=
  let c28_i32 : BitVec 32 := 28#32
  let c1_i32_275 : BitVec 32 := 1#32
  let arg9 : BitVec 32 := Scf.iv c28_i32 c1_i32_275 k0_t8
  let c1_i32_361 : BitVec 32 := 1#32
  let v356 : BitVec 32 := Scalar.addi arg9 c1_i32_361
  let c2_i32_362 : BitVec 32 := 2#32
  let v357 : BitVec 32 := Scalar.remsi v356 c2_i32_362
  let c0_i32_364 : BitVec 32 := 0#32
  let c0_i32_365 : BitVec 32 := 0#32
  ![v357.toNat, 0, 0]
def k0_off80 (k0_t8 : Fin k0_t8_loop.trips) : Fin 2 → Nat :=
  let c0_i32_366 : BitVec 32 := 0#32
  let c28_i32 : BitVec 32 := 28#32
  let c1_i32_275 : BitVec 32 := 1#32
  let arg9 : BitVec 32 := Scf.iv c28_i32 c1_i32_275 k0_t8
  let c1_i32_360 : BitVec 32 := 1#32
  let v355 : BitVec 32 := Scalar.addi arg9 c1_i32_360
  let c256_i32_363 : BitVec 32 := 256#32
  let v358 : BitVec 32 := Scalar.muli v355 c256_i32_363
  ![0, v358.toNat]
def k0_off81 (k0_t8 : Fin k0_t8_loop.trips) : Fin 1 → Nat :=
  let c28_i32 : BitVec 32 := 28#32
  let c1_i32_275 : BitVec 32 := 1#32
  let arg9 : BitVec 32 := Scf.iv c28_i32 c1_i32_275 k0_t8
  let c2_i32_341 : BitVec 32 := 2#32
  let v316 : BitVec 32 := Scalar.remsi arg9 c2_i32_341
  ![v316.toNat]
def k0_off82 (k0_t8 : Fin k0_t8_loop.trips) : Fin 3 → Nat :=
  let c28_i32 : BitVec 32 := 28#32
  let c1_i32_275 : BitVec 32 := 1#32
  let arg9 : BitVec 32 := Scf.iv c28_i32 c1_i32_275 k0_t8
  let c2_i32_341 : BitVec 32 := 2#32
  let v316 : BitVec 32 := Scalar.remsi arg9 c2_i32_341
  let c0_i32_347 : BitVec 32 := 0#32
  let c0_i32_348 : BitVec 32 := 0#32
  ![v316.toNat, 0, 0]
def k0_off83 (k0_t8 : Fin k0_t8_loop.trips) : Fin 2 → Nat :=
  let c0_i32_349 : BitVec 32 := 0#32
  let c28_i32 : BitVec 32 := 28#32
  let c1_i32_275 : BitVec 32 := 1#32
  let arg9 : BitVec 32 := Scf.iv c28_i32 c1_i32_275 k0_t8
  let c256_i32 : BitVec 32 := 256#32
  let v324 : BitVec 32 := Scalar.muli arg9 c256_i32
  ![0, v324.toNat]
def k0_off84 (k0_t8 : Fin k0_t8_loop.trips) : Fin 3 → Nat :=
  let c28_i32 : BitVec 32 := 28#32
  let c1_i32_275 : BitVec 32 := 1#32
  let arg9 : BitVec 32 := Scf.iv c28_i32 c1_i32_275 k0_t8
  let c2_i32_341 : BitVec 32 := 2#32
  let v316 : BitVec 32 := Scalar.remsi arg9 c2_i32_341
  let v330 : Index := Scalar.indexCast v316
  let c0_350 : Index := 0#32
  let c0_351 : Index := 0#32
  ![v330.toNat, 0, 0]
def k0_off85 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1024_i32_4 : BitVec 32 := 1024#32
  let v9 : BitVec 32 := Scalar.muli v8 c1024_i32_4
  let v334 : Index := Scalar.indexCast v9
  let c0_352 : Index := 0#32
  ![v334.toNat, 0]
def k0_off86 (k0_t8 : Fin k0_t8_loop.trips) : Fin 3 → Nat :=
  let c28_i32 : BitVec 32 := 28#32
  let c1_i32_275 : BitVec 32 := 1#32
  let arg9 : BitVec 32 := Scf.iv c28_i32 c1_i32_275 k0_t8
  let c4_i32_343 : BitVec 32 := 4#32
  let v318 : BitVec 32 := Scalar.divsi arg9 c4_i32_343
  let c2_i32_344 : BitVec 32 := 2#32
  let v319 : BitVec 32 := Scalar.remsi v318 c2_i32_344
  let v340 : Index := Scalar.indexCast v319
  let c0_354 : Index := 0#32
  let c4_i32_342 : BitVec 32 := 4#32
  let v317 : BitVec 32 := Scalar.remsi arg9 c4_i32_342
  let c256_i32_353 : BitVec 32 := 256#32
  let v339 : BitVec 32 := Scalar.muli v317 c256_i32_353
  let v341 : Index := Scalar.indexCast v339
  ![v340.toNat, 0, v341.toNat]
def k0_off87 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32 : BitVec 32 := 1024#32
  let v7 : BitVec 32 := Scalar.muli v5 c1024_i32
  let v345 : Index := Scalar.indexCast v7
  let c0_355 : Index := 0#32
  ![v345.toNat, 0]
def k0_off88 (k0_t8 : Fin k0_t8_loop.trips) : Fin 3 → Nat :=
  let c0_358 : Index := 0#32
  let c0_359 : Index := 0#32
  let c28_i32 : BitVec 32 := 28#32
  let c1_i32_275 : BitVec 32 := 1#32
  let arg9 : BitVec 32 := Scf.iv c28_i32 c1_i32_275 k0_t8
  let c256_i32_357 : BitVec 32 := 256#32
  let v350 : BitVec 32 := Scalar.muli arg9 c256_i32_357
  let v351 : Index := Scalar.indexCast v350
  ![0, 0, v351.toNat]
def k0_dev9 (d0 : Dev nD) : Nat :=
  let c0_i32_281 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_280 : BitVec 32 := 2#32
  let v256 : BitVec 32 := Scalar.muli v2 c2_i32_280
  let v257 : BitVec 32 := Scalar.addi c0_i32_281 v256
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_282 : BitVec 32 := 1#32
  let v258 : BitVec 32 := Scalar.muli v6 c1_i32_282
  let v259 : BitVec 32 := Scalar.addi v257 v258
  v259.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1x2048x64x128 : Shape := ⟨4, ![1, 2048, 64, 128]⟩
abbrev S8192x8192 : Shape := ⟨2, ![8192, 8192]⟩
abbrev S1x2048x8192 : Shape := ⟨3, ![1, 2048, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1x2048x64x128, .bf16⟩
  | .hbm, ⟨1, _⟩ => ⟨S8192x8192, .f32⟩
  | .hbm, ⟨2, _⟩ => ⟨S1x2048x8192, .bf16⟩
  | .hbm, ⟨3, _⟩ => ⟨S1x2048x8192, .f32⟩
  | .hbm, ⟨4, _⟩ => ⟨S1x2048x8192, .bf16⟩
  | _, _ => ⟨S1x2048x64x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.KernelIdeal.Trip.lean ====
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.Sem
open Cert.KernelIdeal.Gen

variable {F : FTy → Type} [FloatOps F]

/-! ## The buffers the body works on -/

/-- The staged left factor: 2048 rows of this device's 4096 summands. -/
abbrev aM : Memref sig .tc .vmem S2048x4096 .bf16 := Memref.whole cc0_stg0_0
/-- The right factor in HBM. -/
abbrev wM : Memref sig .tc .hbm S4096x8192 .f32 := Memref.whole main_arg1
/-- The staged result. -/
abbrev oM : Memref sig .tc .vmem S1x1024x8192 .bf16 := Memref.whole cc0_stg1_0
/-- The two slots the right factor's column tiles are copied into. -/
abbrev bM : Memref sig .tc .vmem S2x4096x256 .f32 := Memref.whole cc0_scratch0
/-- The two slots the partial products of the peer are gathered in. -/
abbrev sM : Memref sig .tc .vmem S2x1024x1024 .bf16 := Memref.whole cc0_scratch1
/-- The eight slots the peer's partial products arrive in. -/
abbrev rM : Memref sig .tc .vmem S8x1024x1024 .bf16 := Memref.whole cc0_scratch2

/-- The eleven offsets one trip of a column loop uses, its condition, and what makes the program's accesses legal. -/
structure TripOff where
  cnd : BitVec 1
  o1 : Fin 1 → ℕ
  o2 : Fin 3 → ℕ
  o3 : Fin 2 → ℕ
  o4 : Fin 1 → ℕ
  o5 : Fin 3 → ℕ
  o6 : Fin 2 → ℕ
  o7 : Fin 3 → ℕ
  o8 : Fin 2 → ℕ
  o9 : Fin 3 → ℕ
  o10 : Fin 2 → ℕ
  o11 : Fin 3 → ℕ
  h1 : cnd = 1#1 → ∀ a, o1 a + S1.size a ≤ S2.size a
  h2 : cnd = 1#1 → ∀ a, o2 a + S1x4096x256.size a ≤ S2x4096x256.size a
  h3 : cnd = 1#1 → ∀ a, o3 a + S4096x256.size a ≤ S4096x8192.size a
  h4 : ∀ a, o4 a + S1.size a ≤ S2.size a
  h5 : ∀ a, o5 a + S1x4096x256.size a ≤ S2x4096x256.size a
  h6 : ∀ a, o6 a + S4096x256.size a ≤ S4096x8192.size a
  h7 : ∀ a, o7 a + S1x4096x256.size a ≤ S2x4096x256.size a
  h8 : ∀ a, o8 a + S1024x4096.size a ≤ S2048x4096.size a
  h9 : ∀ a, o9 a + S1x1024x256.size a ≤ S2x1024x1024.size a
  h10 : ∀ a, o10 a + S1024x4096.size a ≤ S2048x4096.size a
  h11 : ∀ a, o11 a + S1x1024x256.size a ≤ S1x1024x8192.size a
  p9 : (Rect.unit (s := S2x1024x1024) o9 S1x1024x256.size h9).PackedRows (EltTy.packing .bf16)
  p11 : (Rect.unit (s := S1x1024x8192) o11 S1x1024x256.size h11).PackedRows (EltTy.packing .bf16)

/-- A trip up to the store into the send slot: prefetch the next column tile, wait for this one, multiply both row
    halves by it, store the peer's half. -/
def tripHead (T : TripOff) (v350 : BitVec 32) :
    Prog (TpuEff nD τ sig (Elt F) Λ₀ .tc) (Σ' (v349 : FVec F S1024x256 .bf16), BitVec 32) := do
  if h : T.cnd = 1#1 then do
    let v359 : DmaSems sig S1 := cc0_scratch3.slice (Rect.unit (s := S2) T.o1 S1.size (T.h1 h))
    let v360 : DmaSems sig S_ := v359.squeeze S_ squeezes_S1_S_
    let v361 : Memref sig .tc .vmem S1x4096x256 .f32 := bM.slice (Rect.unit (s := S2x4096x256) T.o2 S1x4096x256.size (T.h2 h)) (fun _ => rfl)
    let v362 : Memref sig .tc .vmem S4096x256 .f32 := v361.squeeze S4096x256 squeezes_S1x4096x256_S4096x256
    let v363 : Memref sig .tc .hbm S4096x256 .f32 := wM.slice (Rect.unit (s := S4096x8192) T.o3 S4096x256.size (T.h3 h)) (fun _ => rfl)
    Prog.lift (.enqueueDma v363 (.here v362) (.dma v360.sem) (View.wordExact_bits rfl) ((View.wordExact_bits rfl).reshape _ _) ⟨Or.inl rfl, trivial⟩)
    pure ⟨⟩
  else do
    pure ⟨⟩
  let v325 : DmaSems sig S1 := cc0_scratch3.slice (Rect.unit (s := S2) T.o4 S1.size T.h4)
  let v326 : DmaSems sig S_ := v325.squeeze S_ squeezes_S1_S_
  let v327 : Memref sig .tc .vmem S1x4096x256 .f32 := bM.slice (Rect.unit (s := S2x4096x256) T.o5 S1x4096x256.size T.h5) (fun _ => rfl)
  let v328 : Memref sig .tc .vmem S4096x256 .f32 := v327.squeeze S4096x256 squeezes_S1x4096x256_S4096x256
  let v329 : Memref sig .tc .hbm S4096x256 .f32 := wM.slice (Rect.unit (s := S4096x8192) T.o6 S4096x256.size T.h6) (fun _ => rfl)
  Prog.lift (.waitDma2 v326.sem v329 v328 (View.wordExact_bits rfl) ((View.wordExact_bits rfl).reshape _ _))
  let v331 : Vec F S1x4096x256 .f32 ← Prog.lift (.load bM (Rect.unit (s := S2x4096x256) T.o7 S1x4096x256.size T.h7).toLoadRect (View.loadsAt_vmem h_S1x4096x256))
  let v335 : Vec F S1024x4096 .bf16 ← Prog.lift (.load aM (Rect.unit (s := S2048x4096) T.o8 S1024x4096.size T.h8).toLoadRect (View.loadsAt_vmem h_S1024x4096))
  let v342 : Vec F S1x1024x256 .bf16 ← Prog.lift (.load sM (Rect.unit (s := S2x1024x1024) T.o9 S1x1024x256.size T.h9).toLoadRect (View.loadsAt_vmem h_S1x1024x256))
  Prog.lift (.store sM (Rect.unit (s := S2x1024x1024) T.o9 S1x1024x256.size T.h9) (k0_pay2 v331 v335) Finset.univ (View.stores_vmem h_S1x1024x256 ((Memref.isWhole_whole cc0_scratch1).storeExact_slice rfl _ T.p9) (fun _ => rfl)) (.inl rfl))
  let v346 : Vec F S1024x4096 .bf16 ← Prog.lift (.load aM (Rect.unit (s := S2048x4096) T.o10 S1024x4096.size T.h10).toLoadRect (View.loadsAt_vmem h_S1024x4096))
  pure ⟨k0_pay3 v331 v346, v350⟩

/-- A whole trip: its head, then the store of the kept half into the result. -/
def trip (T : TripOff) (v350 : BitVec 32) : Prog (TpuEff nD τ sig (Elt F) Λ₀ .tc) Unit := do
  let ⟨v349, _⟩ : Σ' (v349 : FVec F S1024x256 .bf16), BitVec 32 ← tripHead (F := F) T v350
  let v352 : Vec F S1x1024x256 .bf16 ← Prog.lift (.load oM (Rect.unit (s := S1x1024x8192) T.o11 S1x1024x256.size T.h11).toLoadRect (View.loadsAt_vmem h_S1x1024x256))
  Prog.lift (.store oM (Rect.unit (s := S1x1024x8192) T.o11 S1x1024x256.size T.h11) (k0_pay25 v349) Finset.univ (View.stores_vmem h_S1x1024x256 ((Memref.isWhole_whole cc0_stg1_0).storeExact_slice rfl _ T.p11) (fun _ => rfl)) (.inl rfl))
  pure ⟨⟩

/-- What the offsets of trip `j` (counted over all groups) are on device `d`: slot `j % 2` and column tile `j` of the right
    factor, the row half of the peer and the own one, the tile's place in the send slot and in the result. -/
structure TripOff.At (T : TripOff) (d : Dev nD) (j : ℕ) : Prop where
  lt : j < 32
  cnd : T.cnd = 1#1 ↔ j + 1 < 32
  o1 : T.cnd = 1#1 → T.o1 = ![(j + 1) % 2]
  o2 : T.cnd = 1#1 → T.o2 = ![(j + 1) % 2, 0, 0]
  o3 : T.cnd = 1#1 → T.o3 = ![0, 256 * (j + 1)]
  o4 : T.o4 = ![j % 2]
  o5 : T.o5 = ![j % 2, 0, 0]
  o6 : T.o6 = ![0, 256 * j]
  o7 : T.o7 = ![j % 2, 0, 0]
  o8 : T.o8 = ![1024 * ((d.val % 2 + 1) % 2), 0]
  o9 : T.o9 = ![j / 4 % 2, 0, 256 * (j % 4)]
  o10 : T.o10 = ![1024 * (d.val % 2), 0]
  o11 : T.o11 = ![0, 0, 256 * j]

/-- `TripOff.At` from its decidable clauses. -/
theorem TripOff.At.of {T : TripOff} {d : Dev nD} {j : ℕ}
    (h : j < 32 ∧ (T.cnd = 1#1 ↔ j + 1 < 32) ∧ (T.cnd = 1#1 → T.o1 = ![(j + 1) % 2]) ∧ (T.cnd = 1#1 → T.o2 = ![(j + 1) % 2, 0, 0]) ∧
      (T.cnd = 1#1 → T.o3 = ![0, 256 * (j + 1)]) ∧ T.o4 = ![j % 2] ∧ T.o5 = ![j % 2, 0, 0] ∧ T.o6 = ![0, 256 * j] ∧ T.o7 = ![j % 2, 0, 0] ∧
      T.o8 = ![1024 * ((d.val % 2 + 1) % 2), 0] ∧ T.o9 = ![j / 4 % 2, 0, 256 * (j % 4)] ∧ T.o10 = ![1024 * (d.val % 2), 0] ∧
      T.o11 = ![0, 0, 256 * j]) : T.At d j := by
  obtain ⟨a0, a1, a2, a3, a4, a5, a6, a7, a8, a9, a10, a11, a12⟩ := h
  exact ⟨a0, a1, a2, a3, a4, a5, a6, a7, a8, a9, a10, a11, a12⟩

/-- The offsets of a trip of group 0's loop. -/
def toff0 (d : Dev nD) (k : Fin k0_t1_loop.trips) : TripOff :=
  ⟨k0_cond1 k, k0_off1 k, k0_off2 k, k0_off3 k, k0_off4 k, k0_off5 k, k0_off6 k, k0_off7 k, k0_off8 d, k0_off9 k, k0_off10 d, k0_off11 k,
   k0_off1_inb k, k0_off2_inb k, k0_off3_inb k, k0_off4_inb k, k0_off5_inb k, k0_off6_inb k, k0_off7_inb k, k0_off8_inb d, k0_off9_inb k, k0_off10_inb d, k0_off11_inb k,
   k0_off9_packedbf16 k, k0_off11_packedbf16 k⟩
/-- They are those of trip `4 * 0 + k`. -/
theorem toff0_at (d : Dev nD) (k : Fin k0_t1_loop.trips) : (toff0 d k).At d (0 + k.val) :=
  .of (by revert d k; decide +kernel)
theorem head0_eq (d : Dev nD) (v7 : BitVec 32) (v9 : BitVec 32) (k : Fin k0_t1_loop.trips) :
    k0_part1 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 0#32 1#32 k
      = tripHead (toff0 d k) (Scalar.muli (Scf.iv 0#32 1#32 k) 256#32) := by
  rw [k0_part1_eq_skeleton]; unfold k0_part1_skel tripHead; rfl
/-- Group 0's loop body is the common trip at those offsets. -/
theorem body0_eq (d : Dev nD) (v7 : BitVec 32) (v9 : BitVec 32) (k : Fin k0_t1_loop.trips) (u : Unit) :
    k0_t1_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 k u
      = trip (toff0 d k) (Scalar.muli (Scf.iv 0#32 1#32 k) 256#32) := by
  unfold k0_t1_body trip; rw [head0_eq]; rfl

/-- The offsets of a trip of group 1's loop. -/
def toff1 (d : Dev nD) (k : Fin k0_t2_loop.trips) : TripOff :=
  ⟨k0_cond2 k, k0_off12 k, k0_off13 k, k0_off14 k, k0_off15 k, k0_off16 k, k0_off17 k, k0_off18 k, k0_off19 d, k0_off20 k, k0_off21 d, k0_off22 k,
   k0_off12_inb k, k0_off13_inb k, k0_off14_inb k, k0_off15_inb k, k0_off16_inb k, k0_off17_inb k, k0_off18_inb k, k0_off19_inb d, k0_off20_inb k, k0_off21_inb d, k0_off22_inb k,
   k0_off20_packedbf16 k, k0_off22_packedbf16 k⟩
/-- They are those of trip `4 * 1 + k`. -/
theorem toff1_at (d : Dev nD) (k : Fin k0_t2_loop.trips) : (toff1 d k).At d (4 + k.val) :=
  .of (by revert d k; decide +kernel)
theorem head1_eq (d : Dev nD) (v7 : BitVec 32) (v9 : BitVec 32) (k : Fin k0_t2_loop.trips) :
    k0_part2 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 4#32 1#32 k
      = tripHead (toff1 d k) (Scalar.muli (Scf.iv 4#32 1#32 k) 256#32) := by
  rw [k0_part2_eq_skeleton]; unfold k0_part2_skel tripHead; rfl
/-- Group 1's loop body is the common trip at those offsets. -/
theorem body1_eq (d : Dev nD) (v2 : BitVec 32) (v6 : BitVec 32) (v7 : BitVec 32) (v9 : BitVec 32) (v22 : BitVec 32) (v23 : BitVec 32) (k : Fin k0_t2_loop.trips) (u : Unit) :
    k0_t2_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 v22 v23 k u
      = trip (toff1 d k) (Scalar.muli (Scf.iv 4#32 1#32 k) 256#32) := by
  unfold k0_t2_body trip; rw [head1_eq]; rfl

/-- The offsets of a trip of group 2's loop. -/
def toff2 (d : Dev nD) (k : Fin k0_t3_loop.trips) : TripOff :=
  ⟨k0_cond3 k, k0_off23 k, k0_off24 k, k0_off25 k, k0_off26 k, k0_off27 k, k0_off28 k, k0_off29 k, k0_off30 d, k0_off31 k, k0_off32 d, k0_off33 k,
   k0_off23_inb k, k0_off24_inb k, k0_off25_inb k, k0_off26_inb k, k0_off27_inb k, k0_off28_inb k, k0_off29_inb k, k0_off30_inb d, k0_off31_inb k, k0_off32_inb d, k0_off33_inb k,
   k0_off31_packedbf16 k, k0_off33_packedbf16 k⟩
/-- They are those of trip `4 * 2 + k`. -/
theorem toff2_at (d : Dev nD) (k : Fin k0_t3_loop.trips) : (toff2 d k).At d (8 + k.val) :=
  .of (by revert d k; decide +kernel)
theorem head2_eq (d : Dev nD) (v7 : BitVec 32) (v9 : BitVec 32) (k : Fin k0_t3_loop.trips) :
    k0_part3 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 8#32 1#32 k
      = tripHead (toff2 d k) (Scalar.muli (Scf.iv 8#32 1#32 k) 256#32) := by
  rw [k0_part3_eq_skeleton]; unfold k0_part3_skel tripHead; rfl
/-- Group 2's loop body is the common trip at those offsets. -/
theorem body2_eq (d : Dev nD) (v2 : BitVec 32) (v6 : BitVec 32) (v7 : BitVec 32) (v9 : BitVec 32) (k : Fin k0_t3_loop.trips) (u : Unit) :
    k0_t3_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 k u
      = trip (toff2 d k) (Scalar.muli (Scf.iv 8#32 1#32 k) 256#32) := by
  unfold k0_t3_body trip; rw [head2_eq]; rfl

/-- The offsets of a trip of group 3's loop. -/
def toff3 (d : Dev nD) (k : Fin k0_t4_loop.trips) : TripOff :=
  ⟨k0_cond4 k, k0_off34 k, k0_off35 k, k0_off36 k, k0_off37 k, k0_off38 k, k0_off39 k, k0_off40 k, k0_off41 d, k0_off42 k, k0_off43 d, k0_off44 k,
   k0_off34_inb k, k0_off35_inb k, k0_off36_inb k, k0_off37_inb k, k0_off38_inb k, k0_off39_inb k, k0_off40_inb k, k0_off41_inb d, k0_off42_inb k, k0_off43_inb d, k0_off44_inb k,
   k0_off42_packedbf16 k, k0_off44_packedbf16 k⟩
/-- They are those of trip `4 * 3 + k`. -/
theorem toff3_at (d : Dev nD) (k : Fin k0_t4_loop.trips) : (toff3 d k).At d (12 + k.val) :=
  .of (by revert d k; decide +kernel)
theorem head3_eq (d : Dev nD) (v7 : BitVec 32) (v9 : BitVec 32) (k : Fin k0_t4_loop.trips) :
    k0_part4 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 12#32 1#32 k
      = tripHead (toff3 d k) (Scalar.muli (Scf.iv 12#32 1#32 k) 256#32) := by
  rw [k0_part4_eq_skeleton]; unfold k0_part4_skel tripHead; rfl
/-- Group 3's loop body is the common trip at those offsets. -/
theorem body3_eq (d : Dev nD) (v2 : BitVec 32) (v6 : BitVec 32) (v7 : BitVec 32) (v9 : BitVec 32) (k : Fin k0_t4_loop.trips) (u : Unit) :
    k0_t4_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 k u
      = trip (toff3 d k) (Scalar.muli (Scf.iv 12#32 1#32 k) 256#32) := by
  unfold k0_t4_body trip; rw [head3_eq]; rfl

/-- The offsets of a trip of group 4's loop. -/
def toff4 (d : Dev nD) (k : Fin k0_t5_loop.trips) : TripOff :=
  ⟨k0_cond5 k, k0_off45 k, k0_off46 k, k0_off47 k, k0_off48 k, k0_off49 k, k0_off50 k, k0_off51 k, k0_off52 d, k0_off53 k, k0_off54 d, k0_off55 k,
   k0_off45_inb k, k0_off46_inb k, k0_off47_inb k, k0_off48_inb k, k0_off49_inb k, k0_off50_inb k, k0_off51_inb k, k0_off52_inb d, k0_off53_inb k, k0_off54_inb d, k0_off55_inb k,
   k0_off53_packedbf16 k, k0_off55_packedbf16 k⟩
/-- They are those of trip `4 * 4 + k`. -/
theorem toff4_at (d : Dev nD) (k : Fin k0_t5_loop.trips) : (toff4 d k).At d (16 + k.val) :=
  .of (by revert d k; decide +kernel)
theorem head4_eq (d : Dev nD) (v7 : BitVec 32) (v9 : BitVec 32) (k : Fin k0_t5_loop.trips) :
    k0_part5 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 16#32 1#32 k
      = tripHead (toff4 d k) (Scalar.muli (Scf.iv 16#32 1#32 k) 256#32) := by
  rw [k0_part5_eq_skeleton]; unfold k0_part5_skel tripHead; rfl
/-- Group 4's loop body is the common trip at those offsets. -/
theorem body4_eq (d : Dev nD) (v2 : BitVec 32) (v6 : BitVec 32) (v7 : BitVec 32) (v9 : BitVec 32) (k : Fin k0_t5_loop.trips) (u : Unit) :
    k0_t5_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 k u
      = trip (toff4 d k) (Scalar.muli (Scf.iv 16#32 1#32 k) 256#32) := by
  unfold k0_t5_body trip; rw [head4_eq]; rfl

/-- The offsets of a trip of group 5's loop. -/
def toff5 (d : Dev nD) (k : Fin k0_t6_loop.trips) : TripOff :=
  ⟨k0_cond6 k, k0_off56 k, k0_off57 k, k0_off58 k, k0_off59 k, k0_off60 k, k0_off61 k, k0_off62 k, k0_off63 d, k0_off64 k, k0_off65 d, k0_off66 k,
   k0_off56_inb k, k0_off57_inb k, k0_off58_inb k, k0_off59_inb k, k0_off60_inb k, k0_off61_inb k, k0_off62_inb k, k0_off63_inb d, k0_off64_inb k, k0_off65_inb d, k0_off66_inb k,
   k0_off64_packedbf16 k, k0_off66_packedbf16 k⟩
/-- They are those of trip `4 * 5 + k`. -/
theorem toff5_at (d : Dev nD) (k : Fin k0_t6_loop.trips) : (toff5 d k).At d (20 + k.val) :=
  .of (by revert d k; decide +kernel)
theorem head5_eq (d : Dev nD) (v7 : BitVec 32) (v9 : BitVec 32) (c20_i32 : BitVec 32) (k : Fin k0_t6_loop.trips) :
    k0_part6 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 c20_i32 1#32 k
      = tripHead (toff5 d k) (Scalar.muli (Scf.iv c20_i32 1#32 k) 256#32) := by
  rw [k0_part6_eq_skeleton]; unfold k0_part6_skel tripHead; rfl
/-- Group 5's loop body is the common trip at those offsets. -/
theorem body5_eq (d : Dev nD) (v2 : BitVec 32) (v6 : BitVec 32) (v7 : BitVec 32) (v9 : BitVec 32) (c20_i32 : BitVec 32) (c4_i32_194 : BitVec 32) (k : Fin k0_t6_loop.trips) (u : Unit) :
    k0_t6_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 c20_i32 c4_i32_194 k u
      = trip (toff5 d k) (Scalar.muli (Scf.iv c20_i32 1#32 k) 256#32) := by
  unfold k0_t6_body trip; rw [head5_eq]; rfl

/-- The offsets of a trip of group 6's loop. -/
def toff6 (d : Dev nD) (k : Fin k0_t7_loop.trips) : TripOff :=
  ⟨k0_cond7 k, k0_off67 k, k0_off68 k, k0_off69 k, k0_off70 k, k0_off71 k, k0_off72 k, k0_off73 k, k0_off74 d, k0_off75 k, k0_off76 d, k0_off77 k,
   k0_off67_inb k, k0_off68_inb k, k0_off69_inb k, k0_off70_inb k, k0_off71_inb k, k0_off72_inb k, k0_off73_inb k, k0_off74_inb d, k0_off75_inb k, k0_off76_inb d, k0_off77_inb k,
   k0_off75_packedbf16 k, k0_off77_packedbf16 k⟩
/-- They are those of trip `4 * 6 + k`. -/
theorem toff6_at (d : Dev nD) (k : Fin k0_t7_loop.trips) : (toff6 d k).At d (24 + k.val) :=
  .of (by revert d k; decide +kernel)
theorem head6_eq (d : Dev nD) (v7 : BitVec 32) (v9 : BitVec 32) (k : Fin k0_t7_loop.trips) :
    k0_part7 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 24#32 1#32 k
      = tripHead (toff6 d k) (Scalar.muli (Scf.iv 24#32 1#32 k) 256#32) := by
  rw [k0_part7_eq_skeleton]; unfold k0_part7_skel tripHead; rfl
/-- Group 6's loop body is the common trip at those offsets. -/
theorem body6_eq (d : Dev nD) (v2 : BitVec 32) (v6 : BitVec 32) (v7 : BitVec 32) (v9 : BitVec 32) (v205 : FVec F S1024x1024 .bf16) (v207 : FVec F S1024x1024 .bf16) (k : Fin k0_t7_loop.trips) (u : Unit) :
    k0_t7_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v2 v6 v7 v9 v205 v207 k u
      = trip (toff6 d k) (Scalar.muli (Scf.iv 24#32 1#32 k) 256#32) := by
  unfold k0_t7_body trip; rw [head6_eq]; rfl

/-- The offsets of a trip of group 7's loop. -/
def toff7 (d : Dev nD) (k : Fin k0_t8_loop.trips) : TripOff :=
  ⟨k0_cond8 k, k0_off78 k, k0_off79 k, k0_off80 k, k0_off81 k, k0_off82 k, k0_off83 k, k0_off84 k, k0_off85 d, k0_off86 k, k0_off87 d, k0_off88 k,
   k0_off78_inb k, k0_off79_inb k, k0_off80_inb k, k0_off81_inb k, k0_off82_inb k, k0_off83_inb k, k0_off84_inb k, k0_off85_inb d, k0_off86_inb k, k0_off87_inb d, k0_off88_inb k,
   k0_off86_packedbf16 k, k0_off88_packedbf16 k⟩
/-- They are those of trip `4 * 7 + k`. -/
theorem toff7_at (d : Dev nD) (k : Fin k0_t8_loop.trips) : (toff7 d k).At d (28 + k.val) :=
  .of (by revert d k; decide +kernel)
theorem head7_eq (d : Dev nD) (v7 : BitVec 32) (v9 : BitVec 32) (k : Fin k0_t8_loop.trips) :
    k0_part8 (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v7 v9 28#32 1#32 k
      = tripHead (toff7 d k) (Scalar.muli (Scf.iv 28#32 1#32 k) 256#32) := by
  rw [k0_part8_eq_skeleton]; unfold k0_part8_skel tripHead; rfl
/-- Group 7's loop body is the common trip at those offsets. -/
theorem body7_eq (d : Dev nD) (v6 : BitVec 32) (v7 : BitVec 32) (v9 : BitVec 32) (v231 : BitVec 32) (k : Fin k0_t8_loop.trips) (u : Unit) :
    k0_t8_body (F := F) aM (Memref.isWhole_whole _) wM (Memref.isWhole_whole _) oM (Memref.isWhole_whole _) bM (Memref.isWhole_whole _) sM (Memref.isWhole_whole _) rM (Memref.isWhole_whole _) cc0_scratch3 cc0_scratch4 cc0_scratch5 d v6 v7 v9 v231 k u
      = trip (toff7 d k) (Scalar.muli (Scf.iv 28#32 1#32 k) 256#32) := by
  unfold k0_t8_body trip; rw [head7_eq]; rfl

end Cert.KernelIdeal.Own

end
-- ==== Proof.KernelIdeal.Mem.lean ====
module

public import proofs.«01_k».proof.Proof.KernelIdeal.Trip
public import Idealize.ShloMosaic.Lib.ViewIndex
public import Idealize.ShloMosaic.Lib.ValueIdx

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.Sem
open Cert.KernelIdeal.Gen
open Idealize.ShloMosaic.ValueIdx

variable {F : FTy → Type} [FloatOps F]

/-! ## Slots -/

theorem sInb (s : Fin 2) : ∀ a, (![s.val, 0, 0] : Fin 3 → ℕ) a + S1x1024x1024.size a ≤ S2x1024x1024.size a := by
  revert s; decide
theorem rInb (g : Fin 8) : ∀ a, (![g.val, 0, 0] : Fin 3 → ℕ) a + S1x1024x1024.size a ≤ S8x1024x1024.size a := by
  revert g; decide
theorem bInb (s : Fin 2) : ∀ a, (![s.val, 0, 0] : Fin 3 → ℕ) a + S1x4096x256.size a ≤ S2x4096x256.size a := by
  revert s; decide
theorem wInb (j : Fin 32) : ∀ a, (![0, 256 * j.val] : Fin 2 → ℕ) a + S4096x256.size a ≤ S4096x8192.size a := by
  revert j; decide
theorem oInb (g : Fin 8) : ∀ a, (![0, 0, 1024 * g.val] : Fin 3 → ℕ) a + S1x1024x1024.size a ≤ S1x1024x8192.size a := by
  revert g; decide

/-- Send slot `s`. -/
def sSlot (s : Fin 2) : Memref sig .tc .vmem S1024x1024 .bf16 :=
  (sM.slice (Rect.unit (s := S2x1024x1024) ![s.val, 0, 0] S1x1024x1024.size (sInb s)) (fun _ => rfl)).squeeze S1024x1024 squeezes_S1x1024x1024_S1024x1024
/-- Receive slot `g`. -/
def rSlot (g : Fin 8) : Memref sig .tc .vmem S1024x1024 .bf16 :=
  (rM.slice (Rect.unit (s := S8x1024x1024) ![g.val, 0, 0] S1x1024x1024.size (rInb g)) (fun _ => rfl)).squeeze S1024x1024 squeezes_S1x1024x1024_S1024x1024
/-- Slot `s` for a column tile of the right factor. -/
def bSlot (s : Fin 2) : Memref sig .tc .vmem S4096x256 .f32 :=
  (bM.slice (Rect.unit (s := S2x4096x256) ![s.val, 0, 0] S1x4096x256.size (bInb s)) (fun _ => rfl)).squeeze S4096x256 squeezes_S1x4096x256_S4096x256
/-- Column tile `j` of the right factor. -/
def wTileM (j : Fin 32) : Memref sig .tc .hbm S4096x256 .f32 :=
  wM.slice (Rect.unit (s := S4096x8192) ![0, 256 * j.val] S4096x256.size (wInb j)) (fun _ => rfl)

/-- The elements of send slot `s`, of receive slot `g`, of tile slot `s`. -/
def sSet (s : ℕ) : Finset S2x1024x1024.Idx := Finset.univ.filter fun x => (x 0).val = s
def rSet (g : ℕ) : Finset S8x1024x1024.Idx := Finset.univ.filter fun x => (x 0).val = g
def bSet (s : ℕ) : Finset S2x4096x256.Idx := Finset.univ.filter fun x => (x 0).val = s

theorem mem_sSet {s : ℕ} {x : S2x1024x1024.Idx} : x ∈ sSet s ↔ (x 0).val = s := by simp [sSet]
theorem mem_rSet {s : ℕ} {x : S8x1024x1024.Idx} : x ∈ rSet s ↔ (x 0).val = s := by simp [rSet]
theorem mem_bSet {s : ℕ} {x : S2x4096x256.Idx} : x ∈ bSet s ↔ (x 0).val = s := by simp [bSet]

/-! ## Where a slot's elements lie -/

theorem squeeze_idx {a b : ℕ} (h : (⟨2, ![a, b]⟩ : Shape).numel = (⟨3, ![1, a, b]⟩ : Shape).numel) (x : (⟨2, ![a, b]⟩ : Shape).Idx) :
    Shape.reshapeEquiv h x = ix3 (n0 := 1) (n1 := a) (n2 := b) 0 (x 0) (x 1) := by
  refine Shape.reshapeEquiv_eq_of_rowMajor h ?_
  refine (Shape.rowMajor_val_three _).trans (Eq.trans ?_ (Shape.rowMajor_val_two _).symm)
  show ((0 : Fin 1).val * a + (x 0).val) * b + (x 1).val = (x 0).val * b + (x 1).val
  simp

theorem sSlot_emb (s : Fin 2) (x : S1024x1024.Idx) : (sSlot s).view.emb x = ix3 (n0 := 2) (n1 := 1024) (n2 := 1024) s (x 0) (x 1) := by
  show (Rect.unit (s := S2x1024x1024) ![s.val, 0, 0] S1x1024x1024.size (sInb s)).emb (Shape.reshapeEquiv _ x) = _
  rw [squeeze_idx]
  refine Shape.idx3_ext ?_ ?_ ?_ <;> simp [Rect.emb_apply]
theorem rSlot_emb (g : Fin 8) (x : S1024x1024.Idx) : (rSlot g).view.emb x = ix3 (n0 := 8) (n1 := 1024) (n2 := 1024) g (x 0) (x 1) := by
  show (Rect.unit (s := S8x1024x1024) ![g.val, 0, 0] S1x1024x1024.size (rInb g)).emb (Shape.reshapeEquiv _ x) = _
  rw [squeeze_idx]
  refine Shape.idx3_ext ?_ ?_ ?_ <;> simp [Rect.emb_apply]
theorem bSlot_emb (s : Fin 2) (x : S4096x256.Idx) : (bSlot s).view.emb x = ix3 (n0 := 2) (n1 := 4096) (n2 := 256) s (x 0) (x 1) := by
  show (Rect.unit (s := S2x4096x256) ![s.val, 0, 0] S1x4096x256.size (bInb s)).emb (Shape.reshapeEquiv _ x) = _
  rw [squeeze_idx]
  refine Shape.idx3_ext ?_ ?_ ?_ <;> simp [Rect.emb_apply]

/-- A view whose elements lie in `T` and cover it has the elements `T`. -/
theorem set_of_emb {κ : Kind} {sp : Space} {s : Shape} {e : EltTy} (v : View sig κ sp s e) (T : Finset v.ty.Idx)
    (hin : ∀ y, v.emb y ∈ T) (hout : ∀ x ∈ T, ∃ y, v.emb y = x) : v.set = T := by
  ext x; rw [View.set, Finset.mem_map]
  constructor
  · rintro ⟨y, -, rfl⟩; exact hin y
  · intro hx; obtain ⟨y, rfl⟩ := hout x hx; exact ⟨y, Finset.mem_univ _, rfl⟩

theorem sSlot_set (s : Fin 2) : (sSlot s).view.set = sSet s.val := by
  refine set_of_emb (sSlot s).view (sSet s.val) (fun y => ?_) fun (x : S2x1024x1024.Idx) hx => ⟨ix2 (n0 := 1024) (n1 := 1024) (x 1) (x 2), ?_⟩
  · rw [sSlot_emb]; exact mem_sSet.2 rfl
  · rw [sSlot_emb]; exact Shape.idx3_ext (mem_sSet.1 hx).symm rfl rfl
theorem rSlot_set (g : Fin 8) : (rSlot g).view.set = rSet g.val := by
  refine set_of_emb (rSlot g).view (rSet g.val) (fun y => ?_) fun (x : S8x1024x1024.Idx) hx => ⟨ix2 (n0 := 1024) (n1 := 1024) (x 1) (x 2), ?_⟩
  · rw [rSlot_emb]; exact mem_rSet.2 rfl
  · rw [rSlot_emb]; exact Shape.idx3_ext (mem_rSet.1 hx).symm rfl rfl
theorem bSlot_set (s : Fin 2) : (bSlot s).view.set = bSet s.val := by
  refine set_of_emb (bSlot s).view (bSet s.val) (fun y => ?_) fun (x : S2x4096x256.Idx) hx => ⟨ix2 (n0 := 4096) (n1 := 256) (x 1) (x 2), ?_⟩
  · rw [bSlot_emb]; exact mem_bSet.2 rfl
  · rw [bSlot_emb]; exact Shape.idx3_ext (mem_bSet.1 hx).symm rfl rfl

/-! ## What a transfer leaves -/

variable {F : FTy → Type}

/-- Receive slot `g` after a transfer from send slot `s` holds its elements, rows and columns kept. -/
theorem write_rSlot (g : Fin 8) (s : Fin 2) (f : S8x1024x1024.Idx → Elt F .bf16) (fs : S2x1024x1024.Idx → Elt F .bf16)
    (x : S8x1024x1024.Idx) (hx : x ∈ rSet g.val) :
    (rSlot g).view.write (Elt F) f ((sSlot s).view.read (Elt F) fs) Finset.univ x = fs (ix3 (n0 := 2) (n1 := 1024) (n2 := 1024) s (x 1) (x 2)) := by
  obtain ⟨y, rfl⟩ : ∃ y, (rSlot g).view.emb y = x := ⟨ix2 (n0 := 1024) (n1 := 1024) (x 1) (x 2), by
    rw [rSlot_emb]; exact Shape.idx3_ext (mem_rSet.1 hx).symm rfl rfl⟩
  refine (View.write_emb_of_mem _ _ (Finset.mem_univ _)).trans ?_
  show fs ((sSlot s).view.emb _) = _
  rw [sSlot_emb, rSlot_emb]

/-- Tile slot `s` after a copy of column tile `j` holds it. -/
theorem write_bSlot (s : Fin 2) (j : Fin 32) (f : S2x4096x256.Idx → Elt F .f32) (W : S4096x8192.Idx → Elt F .f32)
    (x : S2x4096x256.Idx) (hx : x ∈ bSet s.val) :
    (bSlot s).view.write (Elt F) f ((wTileM j).view.read (Elt F) W) Finset.univ x
      = W (ix2 (n0 := 4096) (n1 := 8192) (x 1) ⟨256 * j.val + (x 2).val, by have : (x 2).val < 256 := (x 2).isLt; omega⟩) := by
  obtain ⟨y, rfl⟩ : ∃ y, (bSlot s).view.emb y = x := ⟨ix2 (n0 := 4096) (n1 := 256) (x 1) (x 2), by
    rw [bSlot_emb]; exact Shape.idx3_ext (mem_bSet.1 hx).symm rfl rfl⟩
  refine (View.write_emb_of_mem _ _ (Finset.mem_univ _)).trans ?_
  show W ((Rect.unit (s := S4096x8192) ![0, 256 * j.val] S4096x256.size (wInb j)).emb y) = _
  congr 1
  rw [bSlot_emb]
  funext a
  fin_cases a
  · apply Fin.ext; simp [Rect.emb_apply]
  · apply Fin.ext; simp [Rect.emb_apply]

/-! ## Loads and stores at unit rectangles -/

/-- An element a store's rectangle holds takes the stored vector's value there. -/
theorem store_in {b : Ref sig .tc} (r : Rect b.ty.shape) (f : b.ty.Contents (Elt F)) (w : r.shape.Idx → Elt F b.ty.elt) (x : r.shape.Idx) (i : b.ty.Idx)
    (h : r.emb x = i) : ((Memref.whole b).access r).write (Elt F) f w Finset.univ i = w x := by
  subst h
  exact View.write_emb_of_mem (v := (Memref.whole b).access r) _ _ (Finset.mem_univ _)

/-- An element outside of it keeps its value. -/
theorem store_out {b : Ref sig .tc} (r : Rect b.ty.shape) (f : b.ty.Contents (Elt F)) (w : r.shape.Idx → Elt F b.ty.elt) (i : b.ty.Idx)
    (h : i ∉ r.set) : ((Memref.whole b).access r).write (Elt F) f w Finset.univ i = f i := by
  refine View.write_of_not_mem (v := (Memref.whole b).access r) _ _ _ ?_
  rw [View.setOn_univ]
  rwa [show ((Memref.whole b).access r).set = r.set from View.set_slice_whole _ _]

end Cert.KernelIdeal.Own

end
-- ==== Proof.KernelIdeal.Contents.lean ====
module

public import proofs.«01_k».proof.Proof.KernelIdeal.Mem

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.Sem
open Cert.KernelIdeal.Gen
open Idealize.ShloMosaic.ValueIdx

variable {F : FTy → Type} [FloatOps F]

/-- The device the exchange goes to and comes from: the other one along the mesh's second axis. -/
def peer (c : Dev nD) : Dev nD := ⟨2 * (c.val / 2) + (c.val % 2 + 1) % 2, by have : c.val < 4 := c.isLt; show _ < 4; omega⟩
theorem peer_peer (c : Dev nD) : peer (peer c) = c := by revert c; decide
theorem peer_ne (c : Dev nD) : peer c ≠ c := by revert c; decide

/-! ## What the body computes

`A c` is the staged left factor of device `c`, `W c` its right factor. -/

variable (A : Dev nD → S2048x4096.Idx → Elt F .bf16) (W : Dev nD → S4096x8192.Idx → Elt F .f32)

/-- Column tile `j` of a right factor, as it is loaded. -/
def wVec (w : S4096x8192.Idx → Elt F .f32) (j : ℕ) : Vec F S1x4096x256 .f32 :=
  fun x => w (ix2 (n0 := 4096) (n1 := 8192) (x 1) ⟨(256 * j + (x 2).val) % 8192, Nat.mod_lt _ (by decide)⟩)
/-- Row half `h` of a left factor, as it is loaded. -/
def half (a : S2048x4096.Idx → Elt F .bf16) (h : ℕ) : Vec F S1024x4096 .bf16 :=
  fun x => a (ix2 (n0 := 2048) (n1 := 4096) ⟨(1024 * h + (x 0).val) % 2048, Nat.mod_lt _ (by decide)⟩ (x 1))

/-- The partial product of tile `j` device `d` makes for its peer. -/
def sendV (d : Dev nD) (j : ℕ) : Vec F S1x1024x256 .bf16 := k0_pay2 (wVec (W d) j) (half (A d) ((d.val % 2 + 1) % 2))
/-- The partial product of tile `j` it makes for itself. -/
def keepV (d : Dev nD) (j : ℕ) : Vec F S1x1024x256 .bf16 := k0_pay25 (k0_pay3 (wVec (W d) j) (half (A d) (d.val % 2)))
/-- An element of the first by row and column. -/
def sendT (d : Dev nD) (r : Fin 1024) (n : ℕ) : Elt F .bf16 :=
  sendV A W d (n / 256) (ix3 (n0 := 1) (n1 := 1024) (n2 := 256) 0 r ⟨n % 256, Nat.mod_lt _ (by decide)⟩)
/-- An element of the second. -/
def keepT (d : Dev nD) (r : Fin 1024) (n : ℕ) : Elt F .bf16 :=
  keepV A W d (n / 256) (ix3 (n0 := 1) (n1 := 1024) (n2 := 256) 0 r ⟨n % 256, Nat.mod_lt _ (by decide)⟩)
/-- Group `g` of the kept partial product, and of the peer's. -/
def keepG (d : Dev nD) (g : ℕ) : Vec F S1x1024x1024 .bf16 := fun x => keepT A W d (x 1) (1024 * g + (x 2).val)
def recvG (d : Dev nD) (g : ℕ) : Vec F S1x1024x1024 .bf16 := fun x => sendT A W (peer d) (x 1) (1024 * g + (x 2).val)
/-- An element of the result: the kept one plus the received one. -/
def finT (d : Dev nD) (r : Fin 1024) (n : ℕ) : Elt F .bf16 :=
  k0_pay27 (keepG A W d (n / 1024)) (recvG A W d (n / 1024)) (ix3 (n0 := 1) (n1 := 1024) (n2 := 1024) 0 r ⟨n % 1024, Nat.mod_lt _ (by decide)⟩)

/-- What a tile slot holds once tile `j` is in it; what receive slots hold once the peer's groups have come. -/
def wCan (d : Dev nD) (j : ℕ) : S2x4096x256.Idx → Elt F .f32 :=
  fun x => wVec (W d) j (ix3 (n0 := 1) (n1 := 4096) (n2 := 256) 0 (x 1) (x 2))
def rCan (d : Dev nD) : S8x1024x1024.Idx → Elt F .bf16 := fun x => sendT A W (peer d) (x 1) (1024 * (x 0).val + (x 2).val)
/-- The result buffer at the end. -/
def oCan (d : Dev nD) : S1x1024x8192.Idx → Elt F .bf16 := fun x => finT A W d (x 1) (x 2).val

/-- The first `k` tiles of group `g` are in its send slot. -/
def SendOK (d : Dev nD) (g k : ℕ) (f : S2x1024x1024.Idx → Elt F .bf16) : Prop :=
  ∀ x : S2x1024x1024.Idx, (x 0).val = g % 2 → (x 2).val < 256 * k → f x = sendT A W d (x 1) (1024 * g + (x 2).val)
/-- The result buffer's first `n` columns are computed, those of the first `a` groups finished. -/
def OutOK (d : Dev nD) (a n : ℕ) (f : S1x1024x8192.Idx → Elt F .bf16) : Prop :=
  ∀ x : S1x1024x8192.Idx, (x 2).val < n →
    f x = if (x 2).val < 1024 * a then finT A W d (x 1) (x 2).val else keepT A W d (x 1) (x 2).val

/-! ## Loads -/

theorem load_b (d : Dev nD) (j s : ℕ) (h : ∀ a, (![s, 0, 0] : Fin 3 → ℕ) a + S1x4096x256.size a ≤ S2x4096x256.size a) :
    bM.view.readAt (Elt F) (Rect.unit (s := S2x4096x256) ![s, 0, 0] S1x4096x256.size h).toLoadRect (wCan W d j) = wVec (W d) j := by
  funext x
  show wVec (W d) j (ix3 _ _ _) = _
  congr 1
  refine Shape.idx3_ext ?_ ?_ ?_
  · have : (x 0).val < 1 := (x 0).isLt
    show 0 = (x 0).val; omega
  · show 0 + 1 * (x 1).val = (x 1).val; omega
  · show 0 + 1 * (x 2).val = (x 2).val; omega

theorem load_a (f : S2048x4096.Idx → Elt F .bf16) (h : ℕ) (hh : h < 2)
    (hi : ∀ a, (![1024 * h, 0] : Fin 2 → ℕ) a + S1024x4096.size a ≤ S2048x4096.size a) :
    aM.view.readAt (Elt F) (Rect.unit (s := S2048x4096) ![1024 * h, 0] S1024x4096.size hi).toLoadRect f = half f h := by
  funext x
  show f _ = f _
  congr 1
  have h0 : (x 0).val < 1024 := (x 0).isLt
  funext a
  fin_cases a
  · apply Fin.ext
    show 1024 * h + 1 * (x 0).val = (1024 * h + (x 0).val) % 2048; omega
  · apply Fin.ext
    show 0 + 1 * (x 1).val = (x 1).val; omega

theorem load_r (d : Dev nD) (g : ℕ) (h : ∀ a, (![g, 0, 0] : Fin 3 → ℕ) a + S1x1024x1024.size a ≤ S8x1024x1024.size a) :
    rM.view.readAt (Elt F) (Rect.unit (s := S8x1024x1024) ![g, 0, 0] S1x1024x1024.size h).toLoadRect (rCan A W d) = recvG A W d g := by
  funext x
  have h0 : (x 0).val < 1 := (x 0).isLt
  show sendT A W (peer d) _ _ = sendT A W (peer d) _ _
  congr 1
  · apply Fin.ext
    show 0 + 1 * (x 1).val = (x 1).val; omega
  · show 1024 * (g + 1 * (x 0).val) + (0 + 1 * (x 2).val) = 1024 * g + (x 2).val
    have : (x 0).val = 0 := by omega
    rw [this]; omega

theorem load_o (d : Dev nD) (g n : ℕ) (f : S1x1024x8192.Idx → Elt F .bf16) (hf : OutOK A W d g n f) (hn : 1024 * (g + 1) ≤ n)
    (h : ∀ a, (![0, 0, 1024 * g] : Fin 3 → ℕ) a + S1x1024x1024.size a ≤ S1x1024x8192.size a) :
    oM.view.readAt (Elt F) (Rect.unit (s := S1x1024x8192) ![0, 0, 1024 * g] S1x1024x1024.size h).toLoadRect f = keepG A W d g := by
  funext x
  have h2 : (x 2).val < 1024 := (x 2).isLt
  refine (hf ((Rect.unit (s := S1x1024x8192) ![0, 0, 1024 * g] S1x1024x1024.size h).emb x) ?_).trans ?_
  · show 1024 * g + 1 * (x 2).val < n; omega
  · rw [if_neg (by show ¬ 1024 * g + 1 * (x 2).val < 1024 * g; omega)]
    show keepT A W d _ _ = keepT A W d _ _
    congr 1
    · apply Fin.ext
      show 0 + 1 * (x 1).val = (x 1).val; omega
    · show 1024 * g + 1 * (x 2).val = 1024 * g + (x 2).val; omega

/-! ## Stores -/

/-- Storing tile `k` of group `g` into the send slot. -/
theorem store_s (d : Dev nD) (g k : ℕ) (hk : k < 4) (f : S2x1024x1024.Idx → Elt F .bf16) (hf : SendOK A W d g k f)
    (h : ∀ a, (![(4 * g + k) / 4 % 2, 0, 256 * ((4 * g + k) % 4)] : Fin 3 → ℕ) a + S1x1024x256.size a ≤ S2x1024x1024.size a) :
    SendOK A W d g (k + 1) ((sM.access (Rect.unit (s := S2x1024x1024) ![(4 * g + k) / 4 % 2, 0, 256 * ((4 * g + k) % 4)] S1x1024x256.size h)).write (Elt F) f
      (sendV A W d (4 * g + k)) Finset.univ) := by
  intro x hx0 hx2
  have hq : (4 * g + k) / 4 = g := by omega
  have hr : (4 * g + k) % 4 = k := by omega
  by_cases hlt : (x 2).val < 256 * k
  · refine (store_out (b := cc0_scratch1) _ f _ x ?_).trans (hf x hx0 hlt)
    rw [Rect.mem_set_unit]
    intro hm
    have := (hm 2).1
    change 256 * ((4 * g + k) % 4) ≤ (x 2).val at this
    omega
  · refine (store_in (b := cc0_scratch1) (Rect.unit (s := S2x1024x1024) ![(4 * g + k) / 4 % 2, 0, 256 * ((4 * g + k) % 4)] S1x1024x256.size h) f _
      (ix3 (n0 := 1) (n1 := 1024) (n2 := 256) 0 (x 1) ⟨(x 2).val - 256 * k, by omega⟩) x ?_).trans ?_
    · refine Shape.idx3_ext ?_ ?_ ?_
      · show (4 * g + k) / 4 % 2 + 1 * 0 = (x 0).val; omega
      · show 0 + 1 * (x 1).val = (x 1).val; omega
      · show 256 * ((4 * g + k) % 4) + 1 * ((x 2).val - 256 * k) = (x 2).val; omega
    · unfold sendT
      rw [show (1024 * g + (x 2).val) / 256 = 4 * g + k by omega]
      congr 2
      apply Fin.ext
      show (x 2).val - 256 * k = (1024 * g + (x 2).val) % 256; omega

/-- Storing tile `j` into the result. -/
theorem store_o (d : Dev nD) (a j : ℕ) (ha : 4 * a ≤ j) (f : S1x1024x8192.Idx → Elt F .bf16) (hf : OutOK A W d a (256 * j) f)
    (h : ∀ a, (![0, 0, 256 * j] : Fin 3 → ℕ) a + S1x1024x256.size a ≤ S1x1024x8192.size a) :
    OutOK A W d a (256 * (j + 1)) ((oM.access (Rect.unit (s := S1x1024x8192) ![0, 0, 256 * j] S1x1024x256.size h)).write (Elt F) f
      (keepV A W d j) Finset.univ) := by
  intro x hx2
  have h0 : (x 0).val < 1 := (x 0).isLt
  by_cases hlt : (x 2).val < 256 * j
  · refine (store_out (b := cc0_stg1_0) _ f _ x ?_).trans (hf x hlt)
    rw [Rect.mem_set_unit]
    intro hm
    have := (hm 2).1
    change 256 * j ≤ (x 2).val at this
    omega
  · rw [if_neg (by omega)]
    refine (store_in (b := cc0_stg1_0) (Rect.unit (s := S1x1024x8192) ![0, 0, 256 * j] S1x1024x256.size h) f _
      (ix3 (n0 := 1) (n1 := 1024) (n2 := 256) 0 (x 1) ⟨(x 2).val - 256 * j, by omega⟩) x ?_).trans ?_
    · refine Shape.idx3_ext ?_ ?_ ?_
      · show 0 + 1 * 0 = (x 0).val; omega
      · show 0 + 1 * (x 1).val = (x 1).val; omega
      · show 256 * j + 1 * ((x 2).val - 256 * j) = (x 2).val; omega
    · unfold keepT
      rw [show (x 2).val / 256 = j by omega]
      congr 2
      apply Fin.ext
      show (x 2).val - 256 * j = (x 2).val % 256; omega

/-- Adding the received group `g` to the kept one. -/
theorem store_add (d : Dev nD) (g n : ℕ) (hn : 1024 * (g + 1) ≤ n) (f : S1x1024x8192.Idx → Elt F .bf16) (hf : OutOK A W d g n f)
    (h : ∀ a, (![0, 0, 1024 * g] : Fin 3 → ℕ) a + S1x1024x1024.size a ≤ S1x1024x8192.size a) :
    OutOK A W d (g + 1) n ((oM.access (Rect.unit (s := S1x1024x8192) ![0, 0, 1024 * g] S1x1024x1024.size h)).write (Elt F) f
      (k0_pay27 (keepG A W d g) (recvG A W d g)) Finset.univ) := by
  intro x hx2
  have h0 : (x 0).val < 1 := (x 0).isLt
  by_cases hin : 1024 * g ≤ (x 2).val ∧ (x 2).val < 1024 * (g + 1)
  · rw [if_pos hin.2]
    refine (store_in (b := cc0_stg1_0) (Rect.unit (s := S1x1024x8192) ![0, 0, 1024 * g] S1x1024x1024.size h) f _
      (ix3 (n0 := 1) (n1 := 1024) (n2 := 1024) 0 (x 1) ⟨(x 2).val - 1024 * g, by omega⟩) x ?_).trans ?_
    · refine Shape.idx3_ext ?_ ?_ ?_
      · show 0 + 1 * 0 = (x 0).val; omega
      · show 0 + 1 * (x 1).val = (x 1).val; omega
      · show 1024 * g + 1 * ((x 2).val - 1024 * g) = (x 2).val; omega
    · unfold finT
      rw [show (x 2).val / 1024 = g by omega]
      congr 2
      apply Fin.ext
      show (x 2).val - 1024 * g = (x 2).val % 1024; omega
  · refine (store_out (b := cc0_stg1_0) _ f _ x ?_).trans ((hf x hx2).trans ?_)
    · rw [Rect.mem_set_unit]
      intro hm
      have := hm 2
      change 1024 * g ≤ (x 2).val ∧ (x 2).val < 1024 * g + 1024 at this
      omega
    · by_cases hl : (x 2).val < 1024 * g
      · rw [if_pos hl, if_pos (by omega)]
      · rw [if_neg hl, if_neg (by omega)]

/-! ## Transfers -/

/-- A full send slot, written into the peer's receive slot, is what that slot is to hold. -/
theorem sent_eq (d : Dev nD) (g : Fin 8) (s : Fin 2) (hs : s.val = g.val % 2) (fs : S2x1024x1024.Idx → Elt F .bf16) (hf : SendOK A W d g.val 4 fs)
    (f : S8x1024x1024.Idx → Elt F .bf16) (x : S8x1024x1024.Idx) (hx : x ∈ rSet g.val) :
    (rSlot g).view.write (Elt F) f ((sSlot s).view.read (Elt F) fs) Finset.univ x = rCan A W (peer d) x := by
  have h2 : (x 2).val < 1024 := (x 2).isLt
  rw [write_rSlot g s f fs x hx]
  refine (hf (ix3 (n0 := 2) (n1 := 1024) (n2 := 1024) s (x 1) (x 2)) hs (by show (x 2).val < 256 * 4; omega)).trans ?_
  unfold rCan
  rw [peer_peer, mem_rSet.1 hx]

/-- Column tile `j` copied into slot `s` is what the slot is to hold. -/
theorem copied_eq (d : Dev nD) (s : Fin 2) (j : Fin 32) (f : S2x4096x256.Idx → Elt F .f32) (x : S2x4096x256.Idx) (hx : x ∈ bSet s.val) :
    (bSlot s).view.write (Elt F) f ((wTileM j).view.read (Elt F) (W d)) Finset.univ x = wCan W d j.val x := by
  have h2 : (x 2).val < 256 := (x 2).isLt
  rw [write_bSlot s j f (W d) x hx]
  unfold wCan wVec
  congr 2
  apply Fin.ext
  show 256 * j.val + (x 2).val = (256 * j.val + (x 2).val) % 8192
  omega

end Cert.KernelIdeal.Own

end
-- ==== Proof.KernelIdeal.Schedule.lean ====
module

public import proofs.«01_k».proof.Proof.KernelIdeal.Contents
public import Idealize.ShloMosaic.Lib.Rounds

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resources -/

/-- The pipeline's rounds, the exchange's rounds, and the counters of the local copies. -/
abbrev UU : Type := UR sig nD τ × UR sig nD τ × Counters

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := (Emb.inl : Emb (UR sig nD τ) (UR sig nD τ × Counters)).trans embR
abbrev EC : UEmb Counters (MT nD τ sig Unit (Elt F) ℕ UU ℕ) := countersEmb

variable (A : Dev nD → S2048x4096.Idx → Elt F .bf16) (W : Dev nD → S4096x8192.Idx → Elt F .f32)

/-! ## Semaphores and cells -/

/-- The semaphore of tile slot `s`, of send slot `s`, of receive slot `g`. -/
def wSem (s : Fin 2) : DmaSem sig := ⟨2 + s.val, by have := s.isLt; show _ < 14; omega⟩
def sSem (s : Fin 2) : DmaSem sig := ⟨4 + s.val, by have := s.isLt; show _ < 14; omega⟩
def rSem (g : Fin 8) : DmaSem sig := ⟨6 + g.val, by have := g.isLt; show _ < 14; omega⟩

abbrev barCell (c : Dev nD) : GSem nD τ sig := ((c : Thread nD τ), .reg barrier0)
abbrev wCell (c : Dev nD) (s : Fin 2) : GSem nD τ sig := ((c : Thread nD τ), .dma (wSem s))
abbrev sCell (c : Dev nD) (s : Fin 2) : GSem nD τ sig := ((c : Thread nD τ), .dma (sSem s))
abbrev rCell (c : Dev nD) (g : Fin 8) : GSem nD τ sig := ((c : Thread nD τ), .dma (rSem g))

/-- What one transfer of a group adds to its two cells. -/
abbrev N : ℕ := (rSlot 0).view.dmaCredit
theorem N_pos : 0 < N := View.dmaCredit_pos _ (by decide)

/-! ## Points-tos of the slots -/

def sPts (c : Dev nD) (s : ℕ) (f : S2x1024x1024.Idx → Elt F .bf16) : sProp 𝕄 := ((c : Thread nD τ).loc cc0_scratch1) ↦[sSet s]{fullShare} f
def rPts (c : Dev nD) (g : ℕ) (f : S8x1024x1024.Idx → Elt F .bf16) : sProp 𝕄 := ((c : Thread nD τ).loc cc0_scratch2) ↦[rSet g]{fullShare} f
def bPts (c : Dev nD) (s : ℕ) (f : S2x4096x256.Idx → Elt F .f32) : sProp 𝕄 := ((c : Thread nD τ).loc cc0_scratch0) ↦[bSet s]{fullShare} f

omit [FloatOps F] in
instance sPts_storable (c : Dev nD) (s : ℕ) (f) : BI.Storable (upEmb : UEmb _ 𝕄) (sPts (F := F) c s f) := by unfold sPts; infer_instance
omit [FloatOps F] in
instance rPts_storable (c : Dev nD) (s : ℕ) (f) : BI.Storable (upEmb : UEmb _ 𝕄) (rPts (F := F) c s f) := by unfold rPts; infer_instance

/-! ## The schedule

A barrier cell has one round of one unit, which the peer pays with its receive slots. A receive cell has one round, which the
peer's transfer of that group pays with the slot at its contents. A send cell has four rounds, one for each group its slot
carries; the transfer pays with the slot. -/

/-- What the peer's barrier signal hands over. -/
def barPay (c : Dev nD) : sProp 𝕄 :=
  iprop((bigSep Finset.univ fun g : Fin 8 => iprop(∃ f, rPts (peer c) g.val f)) ∗ bigSep Finset.univ fun g : Fin 8 => reached ER (rCell (peer c) g) 0)
/-- What a finished send hands back. -/
def sendPay (c : Dev nD) (s : ℕ) : sProp 𝕄 := iprop(∃ f, sPts c s f)
/-- What an arrived group hands over. -/
def recvPay (c : Dev nD) (g : ℕ) : sProp 𝕄 := rPts c g (rCan A W c)

/-- How many rounds a semaphore's cell has. -/
def rounds : SemLoc sig → ℕ
  | .reg _ => 1
  | .dma q => if q.val < 4 then 0 else if q.val < 6 then 4 else 1

def sched : Rounds.Schedule (GSem nD τ sig) Unit 𝕄 where
  duties g r := if g.1.2 = .tc ∧ r < rounds g.2 then {()} else ∅
  unitless _ := False
  amount g _ _ := match g.2 with
    | .reg _ => 1
    | .dma _ => N
  payload g _ _ := match g.2 with
    | .reg _ => barPay g.1.1
    | .dma q => if q.val < 6 then sendPay g.1.1 (q.val - 4) else recvPay A W g.1.1 (q.val - 6)
  amount_pos g _ _ _ := by
    rcases g with ⟨c, q | q⟩
    · exact Nat.one_pos
    · exact N_pos

instance sched_storable (g : GSem nD τ sig) (r : ℕ) (d : Unit) : BI.Storable (upEmb : UEmb _ 𝕄) ((sched A W).payload g r d) := by
  rcases g with ⟨c, q | q⟩
  · show BI.Storable upEmb (barPay c.1); unfold barPay; infer_instance
  · show BI.Storable upEmb (if q.val < 6 then sendPay c.1 (q.val - 4) else recvPay A W c.1 (q.val - 6))
    unfold sendPay recvPay; split <;> infer_instance

theorem rounds_s (s : Fin 2) : rounds (.dma (sSem s)) = 4 := by revert s; decide
theorem rounds_r (g : Fin 8) : rounds (.dma (rSem g)) = 1 := by revert g; decide

theorem duties_bar (c : Dev nD) : (sched A W).duties (barCell c) 0 = {()} := by dsimp only [sched]; exact if_pos ⟨rfl, Nat.one_pos⟩
theorem duties_s (c : Dev nD) (s : Fin 2) (r : ℕ) (hr : r < 4) : (sched A W).duties (sCell c s) r = {()} :=
  if_pos ⟨rfl, by rw [rounds_s]; exact hr⟩
theorem duties_r (c : Dev nD) (g : Fin 8) : (sched A W).duties (rCell c g) 0 = {()} := if_pos ⟨rfl, by rw [rounds_r]; exact Nat.one_pos⟩
theorem duties_end (g : GSem nD τ sig) (n : ℕ) (hn : rounds g.2 ≤ n) : ∀ r, n ≤ r → (sched A W).duties g r = ∅ :=
  fun r hr => if_neg fun h => by omega

theorem payload_bar (c : Dev nD) (u : Unit) : (sched A W).payload (barCell c) 0 u = barPay c := rfl
theorem payload_s (c : Dev nD) (s : Fin 2) (r : ℕ) (u : Unit) : (sched A W).payload (sCell c s) r u = sendPay c s.val := by
  show (if 4 + s.val < 6 then sendPay c (4 + s.val - 4) else _) = _
  rw [if_pos (by omega), Nat.add_sub_cancel_left]
theorem payload_r (c : Dev nD) (g : Fin 8) (u : Unit) : (sched A W).payload (rCell c g) 0 u = recvPay A W c g.val := by
  show (if 6 + g.val < 6 then _ else recvPay A W c (6 + g.val - 6)) = _
  rw [if_neg (by omega), Nat.add_sub_cancel_left]

theorem expect_bar (c : Dev nD) : (sched A W).expect (barCell c) 0 = 1 := by
  unfold Schedule.expect Schedule.amountOf; rw [duties_bar, Finset.sum_singleton]; rfl
theorem expect_s (c : Dev nD) (s : Fin 2) (r : ℕ) (hr : r < 4) : (sched A W).expect (sCell c s) r = N := by
  unfold Schedule.expect Schedule.amountOf; rw [duties_s A W c s r hr, Finset.sum_singleton]; rfl
theorem expect_r (c : Dev nD) (g : Fin 8) : (sched A W).expect (rCell c g) 0 = N := by
  unfold Schedule.expect Schedule.amountOf; rw [duties_r, Finset.sum_singleton]; rfl

theorem rest_bar (c : Dev nD) : bigSep ((sched A W).duties (barCell c) 0 \ ∅) (fun u => (sched A W).payload (barCell c) 0 u) = barPay c := by
  rw [Finset.sdiff_empty, duties_bar, bigSep_singleton, payload_bar]
theorem rest_s (c : Dev nD) (s : Fin 2) (r : ℕ) (hr : r < 4) :
    bigSep ((sched A W).duties (sCell c s) r \ ∅) (fun u => (sched A W).payload (sCell c s) r u) = sendPay c s.val := by
  rw [Finset.sdiff_empty, duties_s A W c s r hr, bigSep_singleton, payload_s]
theorem rest_r (c : Dev nD) (g : Fin 8) :
    bigSep ((sched A W).duties (rCell c g) 0 \ ∅) (fun u => (sched A W).payload (rCell c g) 0 u) = recvPay A W c g.val := by
  rw [Finset.sdiff_empty, duties_r, bigSep_singleton, payload_r]

/-! ## Debts and levels -/

/-- What device `c` owes its peer once it has started `n` sends: the transfers of the groups left. -/
def owed (c : Dev nD) (n : ℕ) : CellTallies nD τ sig Unit := ∑ g : Fin 8, if n ≤ g.val then tallyAt (rCell (peer c) g) () N else 0

theorem owed_step (c : Dev nD) (g : Fin 8) : owed c g.val = owed c (g.val + 1) + tallyAt (rCell (peer c) g) () N := by
  unfold owed
  have h : (tallyAt (rCell (peer c) g) () N : CellTallies nD τ sig Unit) = ∑ k : Fin 8, if k = g then tallyAt (rCell (peer c) k) () N else 0 := by
    rw [Finset.sum_ite_eq' Finset.univ g, if_pos (Finset.mem_univ _)]
  rw [h, ← Finset.sum_add_distrib]
  refine Finset.sum_congr rfl fun k _ => ?_
  by_cases h1 : k = g
  · subst h1; rw [if_pos le_rfl, if_neg (by omega), if_pos rfl, zero_add]
  · have h2 : k.val ≠ g.val := fun h => h1 (Fin.ext h)
    rw [if_neg h1, add_zero]
    exact if_congr (by omega) rfl rfl
theorem owed_end (c : Dev nD) : owed c 8 = 0 := by
  unfold owed
  exact Finset.sum_eq_zero fun g _ => if_neg (by omega)

theorem owed_pos {c : Dev nD} {n : ℕ} {g : GSem nD τ sig} {u : Unit} (h : 0 < owed c n g u) : ∃ k : Fin 8, n ≤ k.val ∧ g = rCell (peer c) k := by
  unfold owed at h
  by_contra hn
  push Not at hn
  refine absurd h (Nat.not_lt.2 (Nat.le_of_eq ?_))
  rw [Finset.sum_apply, Finsupp.finset_sum_apply]
  refine Finset.sum_eq_zero fun k _ => ?_
  by_cases hk : n ≤ k.val
  · rw [if_pos hk, tallyAt_apply, if_neg fun h' => hn k hk h'.1]
  · rw [if_neg hk]; rfl

def L (g : GSem nD τ sig) : Finset Unit := if g.1.2 = .tc then {()} else ∅
/-- A barrier cell is at level 1, the receive cell of group `g` at `g + 2`, every other cell at 0. -/
def lv (g : GSem nD τ sig) (_ : Unit) : ℕ := match g.2 with
  | .reg _ => 1
  | .dma q => if q.val < 6 then 0 else q.val - 4
theorem L_of_ne (g : GSem nD τ sig) (h : g.1.2 ≠ .tc) : L g = ∅ := if_neg h
theorem L_tc (c : Dev nD) (sm : SemLoc sig) : L ((c : Thread nD τ), sm) = {()} := if_pos rfl
theorem lv_r (c : Dev nD) (g : Fin 8) (u : Unit) : lv (rCell c g) u = g.val + 2 := by
  show (if 6 + g.val < 6 then 0 else 6 + g.val - 4) = _
  rw [if_neg (by omega)]; omega

theorem lv_low (c : Dev nD) (q : DmaSem sig) (h : q.val < 6) : lv ((c : Thread nD τ), .dma q) () = 0 := if_pos h

omit [FloatOps F] in
/-- With `n` sends started a device may wait on every cell at a level below `n + 2`. -/
theorem mayWait (c : Dev nD) (sm : SemLoc sig) (n : ℕ) (h : lv ((c : Thread nD τ), sm) () < n + 2) :
    (levAts L lv : sProp 𝕄) ⊢ MayWait (c : Thread nD τ) sm () (owed c n) := by
  refine MayOwe.of_cut (L := L) (lev := lv) (lv ((c : Thread nD τ), sm) ())
    (fun p hp => by rw [Finset.mem_singleton.mp hp, L_tc]; exact Finset.mem_singleton_self _)
    (fun g u hg => by obtain ⟨k, _, rfl⟩ := owed_pos hg; rw [L_tc]; exact Finset.mem_singleton_self _)
    (fun p hp => by rw [Finset.mem_singleton.mp hp])
    (fun g u hg => by obtain ⟨k, hk, rfl⟩ := owed_pos hg; rw [lv_r]; omega)

end Cert.KernelIdeal.Own

end
-- ==== Proof.KernelIdeal.Tiles.lean ====
module

public import proofs.«01_k».proof.Proof.KernelIdeal.Schedule
public import Idealize.ShloMosaic.Lib.Transfers

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)
open Cert.KernelIdeal.Gen

variable {F : FTy → Type} [FloatOps F]

local notation "𝕄" => MT nD τ sig Unit (Elt F) ℕ UU ℕ

variable (A : Dev nD → S2048x4096.Idx → Elt F .bf16) (W : Dev nD → S4096x8192.Idx → Elt F .f32)

abbrev 𝒱₀ : Variants := Variants.none

/-! ## The column tiles of the right factor

Two copies are in flight at a time, one per slot, so the right factor is read at two shares. -/

/-- The share slot `s`'s copies read at. -/
def wShare (s : ℕ) : PosShare TreeShare := if s = 0 then fullShare.left else fullShare.right
/-- Elements `T` of the right factor at slot `s`'s share; the elements of column tile `j`. -/
def wPts (c : Dev nD) (s : ℕ) (T : Finset S4096x8192.Idx) : sProp 𝕄 := ((c : Thread nD τ).loc main_arg1) ↦[T]{wShare s} W c
def wSet (j : Fin 32) : Finset S4096x8192.Idx := (wTileM j).view.set

/-- Slot `s` with no copy in flight. -/
def tileIdle (c : Dev nD) (s : Fin 2) : sProp 𝕄 := iprop(semVal (wCell c s) 0 ∗ (∃ f, bPts c s.val f) ∗ wPts W c s.val Finset.univ)
/-- What a finished copy of tile `j` into slot `s` gives back. -/
def tileDone (c : Dev nD) (s : Fin 2) (j : Fin 32) : sProp 𝕄 := iprop(bPts c s.val (wCan W c j.val) ∗ wPts W c s.val (wSet j))
/-- What a copy of a tile adds to its cell. -/
abbrev NW : ℕ := (bSlot 0).view.dmaCredit
/-- Slot `s` with the copy of tile `j` in flight. -/
def tileBusy (c : Dev nD) (s : Fin 2) (j : Fin 32) : sProp 𝕄 :=
  iprop(Flight EC (c : Thread nD τ) (.dma (wSem s)) () NW (tileDone W c s j) ∗ wPts W c s.val (Finset.univ \ wSet j))
/-- Before trip `j` its tile is in flight into slot `j % 2` and the other slot is idle; at the end both are. -/
def tiles (c : Dev nD) (j : ℕ) : sProp 𝕄 :=
  if h : j < 32 then iprop(tileBusy W c ⟨j % 2, Nat.mod_lt _ (by decide)⟩ ⟨j, h⟩ ∗ tileIdle W c ⟨(j + 1) % 2, Nat.mod_lt _ (by decide)⟩)
  else iprop(tileIdle W c ⟨j % 2, Nat.mod_lt _ (by decide)⟩ ∗ tileIdle W c ⟨(j + 1) % 2, Nat.mod_lt _ (by decide)⟩)

/-- Slot `s`'s semaphore, as the program names it. -/
theorem wSem_eq (s : ℕ) (hs : s < 2) (h : ∀ a, (![s] : Fin 1 → ℕ) a + S1.size a ≤ S2.size a) :
    ((cc0_scratch3.slice (Rect.unit (s := S2) ![s] S1.size h)).squeeze S_ squeezes_S1_S_).sem = wSem ⟨s, hs⟩ := by
  have key : ∀ y : S1.Idx, 2 + (S2.rowMajor ((Rect.unit (s := S2) ![s] S1.size h).emb y)).val = 2 + s := fun y => by
    have : (y 0).val < 1 := (y 0).isLt
    rw [Shape.rowMajor_val_one]
    show 2 + (s + 1 * (y 0).val) = 2 + s
    omega
  exact Fin.ext (key _)

section Steps
variable {α : Type} {Q : α → sProp (MT nD τ sig Unit (Elt F) ℕ UU ℕ)} {k : PUnit → Prog (TpuEff nD τ sig (Elt F) Λ₀ .tc) α} {defs : Defs nD τ sig (Elt F) Λ₀}

/-- Starting the copy of tile `j` into an idle slot. -/
theorem wp_prefetch (c : Dev nD) (s : Fin 2) (j : Fin 32) {src : Memref sig .tc .hbm S4096x256 .f32} {dst : Memref sig .tc .vmem S4096x256 .f32}
    {sm : DmaSem sig} (e₁ : src = wTileM j) (e₂ : dst = bSlot s) (e₃ : sm = wSem s) {hsrc : src.view.WordExact} {hdst : dst.view.WordExact}
    {hsem : (DmaTarget.here dst : DmaTarget nD τ sig .tc .vmem S4096x256 .f32).Typed .hbm (.dma sm)} :
    iprop(tileIdle W c s ∗ (tileBusy W c s j -∗ wp frame (wpE defs 𝒱₀ (c : Thread nD τ) none) Set.univ (k ⟨⟩) Q))
      ⊢ wp frame (wpE defs 𝒱₀ (c : Thread nD τ) none) Set.univ (.op (.enqueueDma (p := .tc) src (.here dst) (.dma sm) hsrc hdst hsem) k) Q := by
  subst e₁ e₂ e₃
  have hcopy (f) : ∀ x ∈ bSet s.val, (bSlot s).view.write (Elt F) f (ReadAs.same.apply ((wTileM j).view.read (Elt F) (W c))) Finset.univ x
      = wCan W c j.val x := copied_eq W c s j f
  unfold tileIdle bPts wPts
  iintro ⟨⟨Hv, ⟨%f, Hb⟩, Hw⟩, Hk⟩
  ihave Hw' := (pointsTo_split_subset (Finset.subset_univ (wSet j))).1 $$ Hw
  icases Hw' with ⟨Hwt, Hwr⟩
  iapply (Transfers.wp_dmaLocal EC 𝒱₀ (c : Thread nD τ) none (src := wTileM j) (dst := bSlot s) (q := wShare s.val) (fs := W c) (Sd := bSet s.val) (fd := f) () NW rfl
    (View.dmaCredit_pos _ (by decide)) (Finset.subset_of_eq (bSlot_set s))) $$ [Hv Hb Hwt]
  · isplitl [Hwt]; · iexact Hwt
    isplitl [Hb]; · iexact Hb
    iexact Hv
  iintro Hfl
  iapply Hk
  unfold tileBusy wPts
  isplitr [Hwr]
  · iapply (Transfers.Flight_mono EC (c : Thread nD τ) ?_) $$ Hfl
    unfold tileDone bPts wPts
    iintro ⟨Hb, Hw⟩
    isplitl [Hb]
    · iapply (Entails.of_eq (pointsTo_congr (ℓ := (bSlot s).view.loc (c : Thread nD τ)) (hcopy f))) $$ Hb
    · iexact Hw
  · iexact Hwr

/-- Waiting for the copy of tile `j`: the slot holds it and is idle. -/
theorem wp_tileWait (c : Dev nD) (s : Fin 2) (j : Fin 32) (n : ℕ) {src : Memref sig .tc .hbm S4096x256 .f32} {dst : Memref sig .tc .vmem S4096x256 .f32}
    {sm : DmaSem sig} (e₂ : dst = bSlot s) (e₃ : sm = wSem s) {hsrc : src.view.WordExact} {hdst : dst.view.WordExact} :
    iprop(levAts L lv ∗ tileBusy W c s j ∗ (∃ Wt, owes (c : Thread nD τ) (owed c n) Wt)
        ∗ (semVal (wCell c s) 0 ∗ bPts c s.val (wCan W c j.val) ∗ wPts W c s.val Finset.univ ∗ (∃ Wt, owes (c : Thread nD τ) (owed c n) Wt)
          -∗ wp frame (wpE defs 𝒱₀ (c : Thread nD τ) none) Set.univ (k ⟨⟩) Q))
      ⊢ wp frame (wpE defs 𝒱₀ (c : Thread nD τ) none) Set.univ (.op (.waitDma2 (p := .tc) sm src dst hsrc hdst) k) Q := by
  subst e₂ e₃
  unfold tileBusy
  iintro ⟨#Hlev, ⟨Hfl, Hwr⟩, ⟨%Wt, HO⟩, Hk⟩
  iapply (Transfers.wp_waitLocalO EC 𝒱₀ (c : Thread nD τ) none (srcw := src) (dstw := bSlot s) (hsrc := hsrc) (hdst := hdst) () (N := NW) rfl (D := tileDone W c s j) (O := owed c n) (W := Wt)) $$ [Hfl HO]
  · isplitl [Hfl]; · iexact Hfl
    isplitl [HO]; · iexact HO
    iapply (mayWait c (.dma (wSem s)) n (by rw [lv_low c (wSem s) (by show 2 + s.val < 6; omega)]; omega)); iexact Hlev
  unfold tileDone
  iintro ⟨⟨Hb, Hwt⟩, Hv, HO⟩
  iapply Hk
  isplitl [Hv]; · iexact Hv
  isplitl [Hb]; · iexact Hb
  isplitl [Hwt Hwr]
  · unfold wPts
    iapply (pointsTo_split_subset (Finset.subset_univ (wSet j))).2
    isplitl [Hwt] <;> iassumption
  · iexists _; iexact HO

end Steps

/-! ## A trip -/

/-- The staged left factor; the staged result, its first `n` columns computed and those of `a` groups finished; send slot
    `g % 2`, the first `k` tiles of group `g` in it. -/
def aPts (c : Dev nD) : sProp 𝕄 := ((c : Thread nD τ).loc cc0_stg0_0) ↦{fullShare} A c
def oPts (c : Dev nD) (a n : ℕ) : sProp 𝕄 := iprop(∃ f : S1x1024x8192.Idx → Elt F .bf16, (((c : Thread nD τ).loc cc0_stg1_0) ↦{fullShare} f) ∗ ⌜OutOK A W c a n f⌝)
def sFill (c : Dev nD) (g k : ℕ) : sProp 𝕄 := iprop(∃ f, sPts c (g % 2) f ∗ ⌜SendOK A W c g k f⌝)
def owesN (c : Dev nD) (n : ℕ) : sProp 𝕄 := iprop(∃ Wt, owes (c : Thread nD τ) (owed c n) Wt)

/-- What trip `k` of group `g`'s loop works with: `a` groups finished, `n` sends started. -/
def tripSt (c : Dev nD) (g a n k : ℕ) : sProp 𝕄 :=
  iprop(levAts L lv ∗ tiles W c (4 * g + k) ∗ aPts A c ∗ sFill A W c g k ∗ oPts A W c a (256 * (4 * g + k)) ∗ owesN c n)

theorem b_sub (s : ℕ) (h : ∀ a, (![s, 0, 0] : Fin 3 → ℕ) a + S1x4096x256.size a ≤ S2x4096x256.size a) :
    bM.view.setOn (Rect.unit (s := S2x4096x256) ![s, 0, 0] S1x4096x256.size h).toLoadRect.set ⊆ bSet s := by
  intro x hx
  obtain ⟨y, hy, rfl⟩ := Finset.mem_map.1 hx
  have hy' := (Rect.mem_set_unit (inb := h)).1 hy 0
  refine mem_bSet.2 ?_
  change s ≤ (y 0).val ∧ (y 0).val < s + 1 at hy'
  show (y 0).val = s
  omega
theorem s_sub (s o : ℕ) (h : ∀ a, (![s, 0, o] : Fin 3 → ℕ) a + S1x1024x256.size a ≤ S2x1024x1024.size a) :
    sM.view.setOn (Rect.unit (s := S2x1024x1024) ![s, 0, o] S1x1024x256.size h).toLoadRect.set ⊆ sSet s := by
  intro x hx
  obtain ⟨y, hy, rfl⟩ := Finset.mem_map.1 hx
  have hy' := (Rect.mem_set_unit (inb := h)).1 hy 0
  refine mem_sSet.2 ?_
  change s ≤ (y 0).val ∧ (y 0).val < s + 1 at hy'
  show (y 0).val = s
  omega
theorem s_sub' (s o : ℕ) (h : ∀ a, (![s, 0, o] : Fin 3 → ℕ) a + S1x1024x256.size a ≤ S2x1024x1024.size a) :
    (sM.access (Rect.unit (s := S2x1024x1024) ![s, 0, o] S1x1024x256.size h)).setOn Finset.univ ⊆ sSet s := by
  intro x hx
  obtain ⟨y, _, rfl⟩ := Finset.mem_map.1 hx
  have : (y 0).val < 1 := (y 0).isLt
  refine mem_sSet.2 ?_
  show s + 1 * (y 0).val = s
  omega

variable {defs : Defs nD τ sig (Elt F) Λ₀}

/-- The tile slots after trip `j`'s prefetch. -/
def tilesMid (c : Dev nD) (j : ℕ) (hj : j < 32) : sProp 𝕄 :=
  iprop(tileBusy W c ⟨j % 2, Nat.mod_lt _ (by decide)⟩ ⟨j, hj⟩
    ∗ if h : j + 1 < 32 then tileBusy W c ⟨(j + 1) % 2, Nat.mod_lt _ (by decide)⟩ ⟨j + 1, h⟩
      else tileIdle W c ⟨(j + 1) % 2, Nat.mod_lt _ (by decide)⟩)

/-- Once trip `j`'s slot is idle again the slots are as trip `j + 1` finds them. -/
theorem tiles_next (c : Dev nD) (j : ℕ) :
    iprop(tileIdle W c ⟨j % 2, Nat.mod_lt _ (by decide)⟩
      ∗ if h : j + 1 < 32 then tileBusy W c ⟨(j + 1) % 2, Nat.mod_lt _ (by decide)⟩ ⟨j + 1, h⟩
        else tileIdle W c ⟨(j + 1) % 2, Nat.mod_lt _ (by decide)⟩) ⊢ tiles W c (j + 1) := by
  have hs : (⟨(j + 1 + 1) % 2, Nat.mod_lt _ (by decide)⟩ : Fin 2) = ⟨j % 2, Nat.mod_lt _ (by decide)⟩ :=
    Fin.ext (by show (j + 1 + 1) % 2 = j % 2; omega)
  unfold tiles
  rw [hs]
  by_cases h : j + 1 < 32
  · rw [dif_pos h, dif_pos h]; exact BI.sep_comm
  · rw [dif_neg h, dif_neg h]; exact BI.sep_comm

/-- A trip from its wait on. -/
def tripRest (T : TripOff) : Prog (TpuEff nD τ sig (Elt F) Λ₀ .tc) Unit := do
  let v325 : DmaSems sig S1 := cc0_scratch3.slice (Rect.unit (s := S2) T.o4 S1.size T.h4)
  let v326 : DmaSems sig S_ := v325.squeeze S_ squeezes_S1_S_
  let v327 : Memref sig .tc .vmem S1x4096x256 .f32 := bM.slice (Rect.unit (s := S2x4096x256) T.o5 S1x4096x256.size T.h5) (fun _ => rfl)
  let v328 : Memref sig .tc .vmem S4096x256 .f32 := v327.squeeze S4096x256 squeezes_S1x4096x256_S4096x256
  let v329 : Memref sig .tc .hbm S4096x256 .f32 := wM.slice (Rect.unit (s := S4096x8192) T.o6 S4096x256.size T.h6) (fun _ => rfl)
  Prog.lift (.waitDma2 v326.sem v329 v328 (View.wordExact_bits rfl) ((View.wordExact_bits rfl).reshape _ _))
  let v331 : Vec F S1x4096x256 .f32 ← Prog.lift (.load bM (Rect.unit (s := S2x4096x256) T.o7 S1x4096x256.size T.h7).toLoadRect (View.loadsAt_vmem h_S1x4096x256))
  let v335 : Vec F S1024x4096 .bf16 ← Prog.lift (.load aM (Rect.unit (s := S2048x4096) T.o8 S1024x4096.size T.h8).toLoadRect (View.loadsAt_vmem h_S1024x4096))
  let v342 : Vec F S1x1024x256 .bf16 ← Prog.lift (.load sM (Rect.unit (s := S2x1024x1024) T.o9 S1x1024x256.size T.h9).toLoadRect (View.loadsAt_vmem h_S1x1024x256))
  Prog.lift (.store sM (Rect.unit (s := S2x1024x1024) T.o9 S1x1024x256.size T.h9) (k0_pay2 v331 v335) Finset.univ (View.stores_vmem h_S1x1024x256 ((Memref.isWhole_whole cc0_scratch1).storeExact_slice rfl _ T.p9) (fun _ => rfl)) (.inl rfl))
  let v346 : Vec F S1024x4096 .bf16 ← Prog.lift (.load aM (Rect.unit (s := S2048x4096) T.o10 S1024x4096.size T.h10).toLoadRect (View.loadsAt_vmem h_S1024x4096))
  let v352 : Vec F S1x1024x256 .bf16 ← Prog.lift (.load oM (Rect.unit (s := S1x1024x8192) T.o11 S1x1024x256.size T.h11).toLoadRect (View.loadsAt_vmem h_S1x1024x256))
  Prog.lift (.store oM (Rect.unit (s := S1x1024x8192) T.o11 S1x1024x256.size T.h11) (k0_pay25 (k0_pay3 v331 v346)) Finset.univ (View.stores_vmem h_S1x1024x256 ((Memref.isWhole_whole cc0_stg1_0).storeExact_slice rfl _ T.p11) (fun _ => rfl)) (.inl rfl))
  pure ⟨⟩
/-- A trip's prefetch. -/
def tripPre (T : TripOff) (h : T.cnd = 1#1) : Prog (TpuEff nD τ sig (Elt F) Λ₀ .tc) Unit := do
  let v359 : DmaSems sig S1 := cc0_scratch3.slice (Rect.unit (s := S2) T.o1 S1.size (T.h1 h))
  let v360 : DmaSems sig S_ := v359.squeeze S_ squeezes_S1_S_
  let v361 : Memref sig .tc .vmem S1x4096x256 .f32 := bM.slice (Rect.unit (s := S2x4096x256) T.o2 S1x4096x256.size (T.h2 h)) (fun _ => rfl)
  let v362 : Memref sig .tc .vmem S4096x256 .f32 := v361.squeeze S4096x256 squeezes_S1x4096x256_S4096x256
  let v363 : Memref sig .tc .hbm S4096x256 .f32 := wM.slice (Rect.unit (s := S4096x8192) T.o3 S4096x256.size (T.h3 h)) (fun _ => rfl)
  Prog.lift (.enqueueDma v363 (.here v362) (.dma v360.sem) (View.wordExact_bits rfl) ((View.wordExact_bits rfl).reshape _ _) ⟨Or.inl rfl, trivial⟩)
/-- A trip is its prefetch, if there is a next tile, and the rest. -/
theorem trip_eq (T : TripOff) (v : BitVec 32) :
    trip (F := F) T v = if h : T.cnd = 1#1 then tripPre T h >>= fun _ => tripRest T else tripRest T := by
  unfold trip tripHead
  by_cases h : T.cnd = 1#1
  · rw [dif_pos h, dif_pos h]; rfl
  · rw [dif_neg h, dif_neg h]; rfl

/-- The rest of a trip: wait for the tile, multiply, store both halves. -/
theorem wp_tripRest (c : Dev nD) (g a n k : ℕ) (hk : k < 4) (ha : a ≤ g) (T : TripOff) (hT : T.At c (4 * g + k)) :
    iprop(levAts L lv ∗ tilesMid W c (4 * g + k) hT.lt ∗ aPts A c ∗ sFill A W c g k ∗ oPts A W c a (256 * (4 * g + k)) ∗ owesN c n)
      ⊢ wp frame (wpE defs 𝒱₀ (c : Thread nD τ) none) Set.univ (tripRest T) (fun _ => tripSt A W c g a n (k + 1)) := by
  obtain ⟨cnd, o1, o2, o3, o4, o5, o6, o7, o8, o9, o10, o11, h1, h2, h3, h4, h5, h6, h7, h8, h9, h10, h11, p9, p11⟩ := T
  obtain ⟨hlt, hc, e1, e2, e3, e4, e5, e6, e7, e8, e9, e10, e11⟩ := hT
  dsimp only at hc e1 e2 e3 e4 e5 e6 e7 e8 e9 e10 e11
  subst e4 e5 e6 e7 e8 e9 e10 e11
  have hg : (4 * g + k) / 4 % 2 = g % 2 := by omega
  unfold tripRest
  simp only [Prog.lift, Prog.bind_op, Prog.bind_ret, Prog.pure_eq_ret]
  unfold tilesMid sFill oPts owesN
  iintro ⟨#Hlev, ⟨Hbusy, Hother⟩, Ha, ⟨%f, Hs, %hf⟩, ⟨%fo, Ho, %hfo⟩, HO⟩
  iapply (wp_tileWait W c ⟨(4 * g + k) % 2, Nat.mod_lt _ (by decide)⟩ ⟨4 * g + k, hlt⟩ n (dst := bSlot ⟨(4 * g + k) % 2, Nat.mod_lt _ (by decide)⟩) rfl (wSem_eq _ _ _))
  isplitr; · iexact Hlev
  isplitl [Hbusy]; · iexact Hbusy
  isplitl [HO]; · iexact HO
  iintro ⟨Hv, Hb, Hw, HO⟩
  unfold bPts aPts sPts
  iapply (wp_load 𝒱₀ (c : Thread nD τ) none Set.univ (m := bM) (b_sub _ h7)) $$ Hb; iintro Hb
  iapply (wp_load 𝒱₀ (c : Thread nD τ) none Set.univ (m := aM) (Finset.subset_univ _)) $$ Ha; iintro Ha
  iapply (wp_load 𝒱₀ (c : Thread nD τ) none Set.univ (m := sM) (hg ▸ s_sub _ _ h9)) $$ Hs; iintro Hs
  iapply (wp_store 𝒱₀ (c : Thread nD τ) none Set.univ (m := sM) (r := Rect.unit (s := S2x1024x1024) ![(4 * g + k) / 4 % 2, 0, 256 * ((4 * g + k) % 4)] S1x1024x256.size h9) (hg ▸ s_sub' _ _ h9)) $$ Hs; iintro Hs
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Ho; iintro Ho
  iapply (wp_store 𝒱₀ (c : Thread nD τ) none Set.univ (m := oM) (r := Rect.unit (s := S1x1024x8192) ![0, 0, 256 * (4 * g + k)] S1x1024x256.size h11) (Finset.subset_univ _)) $$ Ho; iintro Ho
  rw [wp_ret]
  imodintro
  unfold tripSt aPts
  isplitr; · iexact Hlev
  isplitl [Hv Hb Hw Hother]
  · iapply (tiles_next W c (4 * g + k))
    isplitl [Hv Hb Hw]
    · unfold tileIdle bPts
      isplitl [Hv]; · iexact Hv
      isplitl [Hb]
      · iexists _; iexact Hb
      · iexact Hw
    · iexact Hother
  isplitl [Ha]; · iexact Ha
  isplitl [Hs]
  · unfold sFill sPts
    iexists _
    isplitl [Hs]; · iexact Hs
    ipureintro
    rw [load_b W, load_a (A c) ((c.val % 2 + 1) % 2) (Nat.mod_lt _ (by decide))]
    exact store_s A W c g k hk f hf h9
  isplitl [Ho]
  · unfold oPts
    iexists _
    isplitl [Ho]; · iexact Ho
    ipureintro
    rw [load_b W, load_a (A c) (c.val % 2) (Nat.mod_lt _ (by decide))]
    exact store_o A W c a (4 * g + k) (by omega) fo hfo h11
  · unfold owesN; iexact HO

theorem wTile_eq {o : Fin 2 → ℕ} {j : ℕ} (h : o = ![0, 256 * j]) (hj : j < 32) {hi : ∀ a, o a + S4096x256.size a ≤ S4096x8192.size a} :
    wM.slice (Rect.unit (s := S4096x8192) o S4096x256.size hi) (fun _ => rfl) = wTileM ⟨j, hj⟩ := by subst h; rfl
theorem bSlot_eq {o : Fin 3 → ℕ} {s : ℕ} (h : o = ![s, 0, 0]) (hs : s < 2) {hi : ∀ a, o a + S1x4096x256.size a ≤ S2x4096x256.size a} :
    (bM.slice (Rect.unit (s := S2x4096x256) o S1x4096x256.size hi) (fun _ => rfl)).squeeze S4096x256 squeezes_S1x4096x256_S4096x256 = bSlot ⟨s, hs⟩ := by
  subst h; rfl
theorem wSem_eq' {o : Fin 1 → ℕ} {s : ℕ} (h : o = ![s]) (hs : s < 2) (hi : ∀ a, o a + S1.size a ≤ S2.size a) :
    ((cc0_scratch3.slice (Rect.unit (s := S2) o S1.size hi)).squeeze S_ squeezes_S1_S_).sem = wSem ⟨s, hs⟩ := by
  subst h; exact wSem_eq _ _ _

/-- A trip advances its loop's state. -/
theorem wp_trip (c : Dev nD) (g a n k : ℕ) (hk : k < 4) (ha : a ≤ g) (T : TripOff) (hT : T.At c (4 * g + k)) (v : BitVec 32) :
    tripSt A W c g a n k ⊢ wp frame (wpE defs 𝒱₀ (c : Thread nD τ) none) Set.univ (trip T v) (fun _ => tripSt A W c g a n (k + 1)) := by
  have hrest := wp_tripRest (defs := defs) A W c g a n k hk ha T hT
  rw [trip_eq]
  unfold tripSt tiles
  rw [dif_pos hT.lt]
  iintro ⟨#Hlev, ⟨Hbusy, Hidle⟩, Ha, Hs, Ho, HO⟩
  by_cases h : T.cnd = 1#1
  · rw [dif_pos h]
    have h' := hT.cnd.1 h
    have e1 := hT.o1 h; have e2 := hT.o2 h; have e3 := hT.o3 h
    unfold tripPre
    simp only [Prog.lift, Prog.bind_op, Prog.bind_ret, Prog.pure_eq_ret]
    iapply (wp_prefetch W c ⟨(4 * g + k + 1) % 2, Nat.mod_lt _ (by decide)⟩ ⟨4 * g + k + 1, h'⟩ ?e1 ?e2 ?e3)
    case e1 => exact wTile_eq e3 _
    case e2 => exact bSlot_eq e2 _
    case e3 => exact wSem_eq' e1 _ _
    isplitl [Hidle]; · iexact Hidle
    iintro Hnew
    iapply hrest
    isplitr; · iexact Hlev
    isplitl [Hbusy Hnew]
    · unfold tilesMid; rw [dif_pos h']
      isplitl [Hbusy] <;> iassumption
    isplitl [Ha]; · iexact Ha
    isplitl [Hs]; · iexact Hs
    isplitl [Ho]; · iexact Ho
    iexact HO
  · rw [dif_neg h]
    have h' : ¬ 4 * g + k + 1 < 32 := fun h' => h (hT.cnd.2 h')
    iapply hrest
    isplitr; · iexact Hlev
    isplitl [Hbusy Hidle]
    · unfold tilesMid; rw [dif_neg h']
      isplitl [Hbusy] <;> iassumption
    isplitl [Ha]; · iexact Ha
    isplitl [Hs]; · iexact Hs
    isplitl [Ho]; · iexact Ho
    iexact HO

end Cert.KernelIdeal.Own

end
-- ==== Proof.KernelIdeal.Steps.lean ====
module

public import proofs.«01_k».proof.Proof.KernelIdeal.Tiles

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (A : Dev nD → S2048x4096.Idx → Elt F .bf16) (W : Dev nD → S4096x8192.Idx → Elt F .f32) (K : GSem nD τ sig → ℕ)

/-! ## Names of semaphores, slots and devices as the program has them -/

/-- The send slot of group `g`. -/
def sl (g : ℕ) : Fin 2 := ⟨g % 2, Nat.mod_lt _ (by decide)⟩

theorem sSem_eq (s : ℕ) (hs : s < 2) (h : ∀ a, (![s] : Fin 1 → ℕ) a + S1.size a ≤ S2.size a) :
    ((cc0_scratch4.slice (Rect.unit (s := S2) ![s] S1.size h)).squeeze S_ squeezes_S1_S_).sem = sSem ⟨s, hs⟩ := by
  have key : ∀ y : S1.Idx, 4 + (S2.rowMajor ((Rect.unit (s := S2) ![s] S1.size h).emb y)).val = 4 + s := fun y => by
    have : (y 0).val < 1 := (y 0).isLt
    rw [Shape.rowMajor_val_one]
    show 4 + (s + 1 * (y 0).val) = 4 + s
    omega
  exact Fin.ext (key _)
theorem rSem_eq (g : ℕ) (hg : g < 8) (h : ∀ a, (![g] : Fin 1 → ℕ) a + S1.size a ≤ S8.size a) :
    ((cc0_scratch5.slice (Rect.unit (s := S8) ![g] S1.size h)).squeeze S_ squeezes_S1_S_).sem = rSem ⟨g, hg⟩ := by
  have key : ∀ y : S1.Idx, 6 + (S8.rowMajor ((Rect.unit (s := S8) ![g] S1.size h).emb y)).val = 6 + g := fun y => by
    have : (y 0).val < 1 := (y 0).isLt
    rw [Shape.rowMajor_val_one]
    show 6 + (g + 1 * (y 0).val) = 6 + g
    omega
  exact Fin.ext (key _)

theorem r_sub (g : ℕ) (h : ∀ a, (![g, 0, 0] : Fin 3 → ℕ) a + S1x1024x1024.size a ≤ S8x1024x1024.size a) :
    rM.view.setOn (Rect.unit (s := S8x1024x1024) ![g, 0, 0] S1x1024x1024.size h).toLoadRect.set ⊆ rSet g := by
  intro x hx
  obtain ⟨y, hy, rfl⟩ := Finset.mem_map.1 hx
  have hy' := (Rect.mem_set_unit (inb := h)).1 hy 0
  refine mem_rSet.2 ?_
  change g ≤ (y 0).val ∧ (y 0).val < g + 1 at hy'
  show (y 0).val = g
  omega

/-! ## The state of the body -/

/-- The invariants device `c` opens: of its own cells and of the peer's it pays to; and the levels. Persistent. -/
def ctx (c : Dev nD) : sProp 𝕄 :=
  iprop(levAts L lv ∗ cellInv ER (sched A W) (K (barCell c)) (barCell c) ∗ cellInv ER (sched A W) (K (barCell (peer c))) (barCell (peer c))
    ∗ (bigSep Finset.univ fun s : Fin 2 => cellInv ER (sched A W) (K (sCell c s)) (sCell c s))
    ∗ (bigSep Finset.univ fun g : Fin 8 => cellInv ER (sched A W) (K (rCell c g)) (rCell c g))
    ∗ bigSep Finset.univ fun g : Fin 8 => cellInv ER (sched A W) (K (rCell (peer c) g)) (rCell (peer c) g))

instance ctx_persistent (c : Dev nD) : BI.Persistent (ctx A W K c) := by unfold ctx; infer_instance

/-- Receive slot `g` once `a` groups are received: in hand at its contents, or to be waited for. -/
def recvSt (c : Dev nD) (a : ℕ) (g : Fin 8) : sProp 𝕄 :=
  if g.val < a then iprop(atPos ER (rCell c g) 1 ∅ 0 ∗ rPts c g.val (rCan A W c))
  else iprop(atPos ER (rCell c g) 0 ∅ 0 ∗ cred (tallyAt (rCell c g) () N))
def recvs (c : Dev nD) (a : ℕ) : sProp 𝕄 := bigSep Finset.univ (recvSt A W c a)

/-- What the send of group `g` pays with, besides the send slot. -/
def sendTok (c : Dev nD) (g : Fin 8) : sProp 𝕄 := iprop(dutyTok ER (sCell c (sl g.val)) (g.val / 2) () ∗ dutyTok ER (rCell (peer c) g) 0 ())
/-- The same and the peer's receive slot, if fewer than `g + 1` sends are started. -/
def sendSt (c : Dev nD) (n : ℕ) (g : Fin 8) : sProp 𝕄 :=
  if g.val < n then iprop(emp)
  else iprop(sendTok c g ∗ (∃ f, rPts (peer c) g.val f) ∗ reached ER (rCell (peer c) g) 0)
/-- Past the barrier, `n` sends started. -/
def sends (c : Dev nD) (n : ℕ) : sProp 𝕄 := iprop(atPos ER (barCell c) 1 ∅ 0 ∗ bigSep Finset.univ (sendSt (F := F) c n))

/-- Group `g`'s send slot's cell at its round; the slot in hand, filled, or being sent. -/
def slotAt (c : Dev nD) (g : ℕ) : sProp 𝕄 := iprop(atPos ER (sCell c (sl g)) (g / 2) ∅ 0 ∗ reached ER (sCell c (sl g)) (g / 2))
def ready (c : Dev nD) (g : ℕ) : sProp 𝕄 := iprop(slotAt c g ∗ sendPay c (g % 2))
def full (c : Dev nD) (g : ℕ) : sProp 𝕄 := iprop(slotAt c g ∗ sFill A W c g 4)
def busy (c : Dev nD) (g : ℕ) : sProp 𝕄 := iprop(cred (tallyAt (sCell c (sl g)) () N) ∗ atPos ER (sCell c (sl g)) (g / 2) ∅ 0)

/-- The body's state past the barrier: `j` tiles multiplied, `n` sends started, `a` groups received and added, the two send
    slots in states `X` and `Y`. -/
def St (c : Dev nD) (j n a : ℕ) (X Y : sProp 𝕄) : sProp 𝕄 :=
  iprop(ctx A W K c ∗ tiles W c j ∗ aPts A c ∗ oPts A W c a (256 * j) ∗ owesN c n ∗ sends c n ∗ recvs A W c a ∗ X ∗ Y)

theorem St_swap (c : Dev nD) (j n a : ℕ) (X Y : sProp 𝕄) : St A W K c j n a X Y ⊢ St A W K c j n a Y X := by
  unfold St
  iintro ⟨H1, H2, H3, H4, H5, H6, H7, H8, H9⟩
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9] <;> iassumption

/-- Sending group `g` takes its part and leaves the later ones. -/
theorem sends_step (c : Dev nD) (g : Fin 8) :
    (sends (F := F) c g.val) ⊢ iprop((sendTok c g ∗ (∃ f, rPts (peer c) g.val f) ∗ reached ER (rCell (peer c) g) 0) ∗ sends c (g.val + 1)) := by
  unfold sends
  iintro ⟨Hbar, H⟩
  ihave H' := (bigSep_univ_update (Φ := sendSt (F := F) c g.val) (Ψ := sendSt (F := F) c (g.val + 1)) g (fun k hk => by
    have : k.val ≠ g.val := fun h => hk (Fin.ext h)
    unfold sendSt; exact if_congr (by omega) rfl rfl)) $$ H
  icases H' with ⟨H1, H2⟩
  isplitl [H1]
  · iapply (Entails.of_eq (show sendSt (F := F) c g.val g = _ from if_neg (Nat.lt_irrefl _))) $$ H1
  · isplitl [Hbar]; · iexact Hbar
    iapply H2
    iapply (Entails.of_eq (show iprop(emp) = sendSt (F := F) c (g.val + 1) g from (if_pos (Nat.lt_succ_self _)).symm))
    iempintro

/-- Receiving group `g` exchanges its wait for its slot. -/
theorem recvs_step (c : Dev nD) (g : Fin 8) :
    recvs A W c g.val ⊢ iprop((atPos ER (rCell c g) 0 ∅ 0 ∗ cred (tallyAt (rCell c g) () N))
      ∗ (atPos ER (rCell c g) 1 ∅ 0 ∗ rPts c g.val (rCan A W c) -∗ recvs A W c (g.val + 1))) := by
  unfold recvs
  iintro H
  ihave H' := (bigSep_univ_update (Φ := recvSt A W c g.val) (Ψ := recvSt A W c (g.val + 1)) g (fun k hk => by
    have : k.val ≠ g.val := fun h => hk (Fin.ext h)
    unfold recvSt; exact if_congr (by omega) rfl rfl)) $$ H
  icases H' with ⟨H1, H2⟩
  isplitl [H1]
  · iapply (Entails.of_eq (show recvSt A W c g.val g = _ from if_neg (Nat.lt_irrefl _))) $$ H1
  · iintro H
    iapply H2
    iapply (Entails.of_eq (show _ = recvSt A W c (g.val + 1) g from (if_pos (Nat.lt_succ_self _)).symm)) $$ H

theorem ctx_s (c : Dev nD) (s : Fin 2) : ctx A W K c ⊢ cellInv ER (sched A W) (K (sCell c s)) (sCell c s) := by
  unfold ctx
  iintro ⟨-, -, -, H, -, -⟩
  ihave H' := (Entails.of_eq (bigSep_univ_at (fun s : Fin 2 => cellInv ER (sched A W) (K (sCell c s)) (sCell c s)) s)) $$ H
  icases H' with ⟨H, -⟩; iexact H
theorem ctx_r (c : Dev nD) (g : Fin 8) : ctx A W K c ⊢ cellInv ER (sched A W) (K (rCell c g)) (rCell c g) := by
  unfold ctx
  iintro ⟨-, -, -, -, H, -⟩
  ihave H' := (Entails.of_eq (bigSep_univ_at (fun g : Fin 8 => cellInv ER (sched A W) (K (rCell c g)) (rCell c g)) g)) $$ H
  icases H' with ⟨H, -⟩; iexact H
theorem ctx_p (c : Dev nD) (g : Fin 8) : ctx A W K c ⊢ cellInv ER (sched A W) (K (rCell (peer c) g)) (rCell (peer c) g) := by
  unfold ctx
  iintro ⟨-, -, -, -, -, H⟩
  ihave H' := (Entails.of_eq (bigSep_univ_at (fun g : Fin 8 => cellInv ER (sched A W) (K (rCell (peer c) g)) (rCell (peer c) g)) g)) $$ H
  icases H' with ⟨H, -⟩; iexact H
theorem ctx_lev (c : Dev nD) : ctx A W K c ⊢ levAts L lv := by
  unfold ctx
  iintro ⟨H, -⟩; iexact H

/-! ## Steps -/

section Steps
variable {α : Type} {Q : α → sProp (MT nD τ sig Unit (Elt F) ℕ UU ℕ)} {k : PUnit → Prog (TpuEff nD τ sig (Elt F) Λ₀ .tc) α} {defs : Defs nD τ sig (Elt F) Λ₀}
variable {X Y : sProp (MT nD τ sig Unit (Elt F) ℕ UU ℕ)}

/-- What the body starts with: both tile slots idle, the staged result and the own receive slots at any contents, the peer's
    sends and the barrier unit to be paid, every cell at its first round. -/
def Pre (c : Dev nD) : sProp 𝕄 :=
  iprop(ctx A W K c ∗ tileIdle W c 0 ∗ tileIdle W c 1 ∗ aPts A c ∗ (∃ f, ((c : Thread nD τ).loc cc0_stg1_0) ↦{fullShare} f)
    ∗ (∃ Wt, owes (c : Thread nD τ) (owed c 0 + tallyAt (barCell (peer c)) () 1) Wt)
    ∗ (bigSep Finset.univ fun g : Fin 8 => sendTok c g) ∗ (bigSep Finset.univ fun g : Fin 8 => iprop(∃ f, rPts c g.val f))
    ∗ (bigSep Finset.univ fun g : Fin 8 => reached ER (rCell c g) 0) ∗ recvs A W c 0 ∗ ready c 0 ∗ ready c 1
    ∗ (atPos ER (barCell c) 0 ∅ 0 ∗ cred (tallyAt (barCell c) () 1)) ∗ dutyTok ER (barCell (peer c)) 0 () ∗ reached ER (barCell (peer c)) 0)

/-- What it ends with: every counter back at zero, every buffer back, the staged result at its contents, nothing owed. -/
def Post (c : Dev nD) : sProp 𝕄 :=
  iprop(semVal (barCell c) 0 ∗ (bigSep Finset.univ fun s : Fin 2 => semVal (sCell c s) 0) ∗ (bigSep Finset.univ fun g : Fin 8 => semVal (rCell c g) 0)
    ∗ tileIdle W c 0 ∗ tileIdle W c 1 ∗ aPts A c ∗ (((c : Thread nD τ).loc cc0_stg1_0) ↦{fullShare} oCan A W c)
    ∗ (∃ Wt, owes (c : Thread nD τ) (0 : CellTallies nD τ sig Unit) Wt) ∗ sendPay c 0 ∗ sendPay c 1
    ∗ bigSep Finset.univ fun g : Fin 8 => iprop(∃ f, rPts c g.val f))

theorem sends_start (c : Dev nD) :
    iprop((bigSep Finset.univ fun g : Fin 8 => sendTok c g) ∗ (bigSep Finset.univ fun g : Fin 8 => iprop(∃ f, rPts (peer c) g.val f))
      ∗ (bigSep Finset.univ fun g : Fin 8 => reached ER (rCell (peer c) g) 0) ∗ atPos ER (barCell c) 1 ∅ 0) ⊢ (sends (F := F) c 0) := by
  unfold sends
  iintro ⟨H1, H2, H3, H4⟩
  isplitl [H4]; · iexact H4
  iapply (Entails.of_eq (show iprop((bigSep Finset.univ fun g : Fin 8 => sendTok (F := F) c g)
      ∗ bigSep Finset.univ fun g : Fin 8 => iprop((∃ f, rPts (peer c) g.val f) ∗ reached ER (rCell (peer c) g) 0)) = bigSep Finset.univ (sendSt (F := F) c 0) from
    (bigSep_sep (Finset.univ : Finset (Fin 8)) (fun g => sendTok (F := F) c g) fun g => iprop((∃ f, rPts (peer c) g.val f) ∗ reached ER (rCell (peer c) g) 0)).symm.trans
      (bigSep_congr fun g _ => (if_neg (Nat.not_lt_zero _)).symm)))
  isplitl [H1]; · iexact H1
  iapply (Entails.of_eq (show iprop((bigSep Finset.univ fun g : Fin 8 => iprop(∃ f, rPts (F := F) (peer c) g.val f))
      ∗ bigSep Finset.univ fun g : Fin 8 => reached ER (rCell (peer c) g) 0) = _ from (bigSep_sep (Finset.univ : Finset (Fin 8)) _ _).symm))
  isplitl [H2] <;> iassumption

/-- The opening: the first tile's copy is started, the peer signalled, its signal waited for. -/
theorem step_open (c : Dev nD) {src : Memref sig .tc .hbm S4096x256 .f32} {dst : Memref sig .tc .vmem S4096x256 .f32}
    {sm : DmaSem sig} (e₁ : src = wTileM 0) (e₂ : dst = bSlot 0) (e₃ : sm = wSem 0) {hsrc : src.view.WordExact} {hdst : dst.view.WordExact}
    {hsem : (DmaTarget.here dst : DmaTarget nD τ sig .tc .vmem S4096x256 .f32).Typed .hbm (.dma sm)} {dev : Dev nD} (e₄ : dev = peer c)
    (hk : St A W K c 0 0 0 (ready c 0) (ready c 1) ⊢ wp frame (wpE defs 𝒱₀ (c : Thread nD τ) none) Set.univ (k ⟨⟩) Q) :
    Pre A W K c ⊢ wp frame (wpE defs 𝒱₀ (c : Thread nD τ) none) Set.univ (.op (.enqueueDma (p := .tc) src (.here dst) (.dma sm) hsrc hdst hsem) fun _ =>
      semSignalWord dev barrier0 1#32 >>= fun _ => semWaitWord barrier0 1#32 >>= k) Q := by
  subst e₄
  simp only [semSignalWord, semWaitWord, Prog.lift, Prog.bind_op, Prog.bind_ret]
  unfold Pre
  iintro ⟨#Hctx, Ht0, Ht1, Ha, ⟨%f, Ho⟩, ⟨%Wt, HO⟩, Htok, Hrs, #Hre, Hr, H0, H1, ⟨Hat, Hc⟩, Hd, #Hrb⟩
  iapply (wp_prefetch W c 0 0 e₁ e₂ e₃)
  isplitl [Ht0]; · iexact Ht0
  iintro Ht0
  iapply (Rounds.wp_signal 𝒱₀ ER (sched A W) (c : Thread nD τ) none (dst := (peer c : Thread nD τ)) (sem := barrier0) (r := 0) (d := ()) (κ := K (barCell (peer c)))
      (by rw [duties_bar]; exact Finset.mem_singleton_self _) (show (sched A W).amount (barCell (peer c)) 0 () = 1 from rfl) () (owed c 0) rfl)
    $$ [HO Hd Hrs]
  · isplitr; · unfold ctx; icases Hctx with ⟨-, -, H, -⟩; iexact H
    isplitl [HO]; · iexact HO
    isplitl [Hd]; · iexact Hd
    isplitl [Hrs]
    · rw [payload_bar]; unfold barPay; rw [peer_peer]
      isplitl [Hrs]; · iexact Hrs
      iexact Hre
    · iexact Hrb
  iintro HO
  iapply (Rounds.wp_wait_rest_token 𝒱₀ ER (sched A W) (c : Thread nD τ) none (κ := K (barCell c))
      (wpE_semWait_eq 𝒱₀ (c : Thread nD τ) none Set.univ) (Set.mem_univ _) () (O := owed c 0) (W := Wt) (R := 0) (m := 0) (T := ∅)
      ((Nat.zero_add 1).trans (expect_bar A W c).symm)) $$ [Hc HO Hat]
  · isplitr; · unfold ctx; icases Hctx with ⟨-, H, -⟩; iexact H
    isplitl [Hc]; · iexact Hc
    isplitl [HO]; · iexact HO
    isplitr
    · iapply (mayWait c (.reg barrier0) 0 (by show 1 < 2; decide)); iapply (ctx_lev A W K c); iexact Hctx
    iexact Hat
  iintro ⟨HO, Hat, -, Hpay⟩
  ihave Hp := (Entails.of_eq (rest_bar A W c)) $$ Hpay
  unfold barPay
  icases Hp with ⟨Hps, Hpr⟩
  iapply hk
  unfold St owesN oPts tiles
  isplitr; · iexact Hctx
  isplitl [Ht0 Ht1]
  · rw [dif_pos (by decide)]
    isplitl [Ht0]; · iexact Ht0
    iexact Ht1
  isplitl [Ha]; · iexact Ha
  isplitl [Ho]
  · iexists f
    isplitl [Ho]; · iexact Ho
    ipureintro
    intro x hx; omega
  isplitl [HO]; · iexists _; iexact HO
  isplitl [Htok Hps Hpr Hat]
  · iapply (sends_start c)
    isplitl [Htok]; · iexact Htok
    isplitl [Hps]; · iexact Hps
    isplitl [Hpr]; · iexact Hpr
    iexact Hat
  isplitl [Hr]; · iexact Hr
  isplitl [H0] <;> iassumption

/-- Closing a family of cells whose rounds are over gives their counters back. -/
theorem close_all {n : ℕ} (g : Fin n → GSem nD τ sig) (R : ℕ) (hR : ∀ i, rounds (g i).2 ≤ R) :
    iprop((bigSep Finset.univ fun i => cellInv ER (sched A W) (K (g i)) (g i)) ∗ bigSep Finset.univ fun i => atPos ER (g i) R ∅ 0)
      ⊢ (|={Set.univ}=> bigSep Finset.univ fun i => semVal (g i) 0 : sProp 𝕄) := by
  refine (Entails.of_eq (bigSep_sep Finset.univ (fun i => cellInv ER (sched A W) (K (g i)) (g i)) fun i => atPos ER (g i) R ∅ 0).symm).trans ?_
  refine (bigSep_mono fun i _ => Rounds.cell_close ER (sched A W) (Set.mem_univ (K (g i))) id (duties_end A W (g i) R (hR i))).trans ?_
  exact BI.bigSep_fupd _ _

theorem rPts_any (c : Dev nD) (g : ℕ) (f) : (rPts c g f : sProp 𝕄) ⊢ iprop(∃ f, rPts c g f) := by
  iintro H; iexists f; iexact H

/-- Past the last wait everything comes back. -/
theorem St_end (c : Dev nD) : St A W K c 32 8 8 (ready c 8) (ready c 9) ⊢ (|={Set.univ}=> Post A W c : sProp 𝕄) := by
  unfold St sends recvs ready slotAt oPts owesN tiles
  rw [dif_neg (by decide), owed_end]
  iintro ⟨#Hctx, ⟨Ht0, Ht1⟩, Ha, ⟨%f, Ho, %hf⟩, HO, ⟨Hbar, -⟩, Hr, ⟨⟨Hat0, -⟩, Hs0⟩, ⟨⟨Hat1, -⟩, Hs1⟩⟩
  have hfo : f = oCan A W c := funext fun x => by
    have h2 : (x 2).val < 8192 := (x 2).isLt
    exact (hf x (by show (x 2).val < 256 * 32; omega)).trans (if_pos (by show (x 2).val < 1024 * 8; omega))
  subst hfo
  ihave Hr' := (Entails.of_eq ((bigSep_congr fun g _ => show recvSt A W c 8 g = iprop(atPos ER (rCell c g) 1 ∅ 0 ∗ rPts c g.val (rCan A W c)) from if_pos g.isLt).trans
    (show _ = iprop((bigSep Finset.univ fun g : Fin 8 => atPos ER (rCell c g) 1 ∅ 0) ∗ bigSep Finset.univ fun g : Fin 8 => rPts c g.val (rCan A W c)) from bigSep_sep _ _ _))) $$ Hr
  icases Hr' with ⟨Hrat, Hrp⟩
  imod (Rounds.cell_close ER (sched A W) (g := barCell c) (Set.mem_univ (K (barCell c))) id (duties_end A W (barCell c) 1 (le_refl 1))) $$ [Hbar] with Hbar
  · isplitr; · unfold ctx; icases Hctx with ⟨-, H, -⟩; iexact H
    iexact Hbar
  imod (close_all A W K (fun s : Fin 2 => sCell c s) 4 (fun s => (rounds_s s).le)) $$ [Hat0 Hat1] with Hs
  · isplitr; · unfold ctx; icases Hctx with ⟨-, -, -, H, -⟩; iexact H
    iapply (Entails.of_eq (show iprop(atPos ER (sCell c 0) 4 ∅ 0 ∗ atPos ER (sCell c 1) 4 ∅ 0) = _ from
      (BI.bigSep_fin_two (fun s : Fin 2 => (atPos ER (sCell c s) 4 ∅ 0 : sProp 𝕄))).symm))
    isplitl [Hat0]; · iexact Hat0
    iexact Hat1
  imod (close_all A W K (fun g : Fin 8 => rCell c g) 1 (fun g => (rounds_r g).le)) $$ [Hrat] with Hv
  · isplitr; · unfold ctx; icases Hctx with ⟨-, -, -, -, H, -⟩; iexact H
    iexact Hrat
  imodintro
  unfold Post
  isplitl [Hbar]; · iexact Hbar
  isplitl [Hs]; · iexact Hs
  isplitl [Hv]; · iexact Hv
  isplitl [Ht0]; · iexact Ht0
  isplitl [Ht1]; · iexact Ht1
  isplitl [Ha]; · iexact Ha
  isplitl [Ho]; · iexact Ho
  isplitl [HO]; · iexact HO
  isplitl [Hs0]; · iexact Hs0
  isplitl [Hs1]; · iexact Hs1
  iapply (show (bigSep Finset.univ fun g : Fin 8 => rPts c g.val (rCan A W c)) ⊢ bigSep Finset.univ fun g : Fin 8 => iprop(∃ f, rPts c g.val f) from
    bigSep_mono fun g _ => rPts_any c g.val _) $$ Hrp

/-- Sending group `g`: the filled slot is on its way to the peer's receive slot `g`. -/
theorem step_send (c : Dev nD) (j : ℕ) (g : Fin 8) (a : ℕ) {src dst : Memref sig .tc .vmem S1024x1024 .bf16} {dev : Dev nD} {ss rs : DmaSem sig}
    (e₁ : src = sSlot (sl g.val)) (e₂ : dst = rSlot g) (e₃ : dev = peer c) (e₄ : ss = sSem (sl g.val)) (e₅ : rs = rSem g)
    {hsc : dst.view.ref.isScScratch = false} {hsrc : src.view.WordExact} {hdst : dst.view.WordExact}
    {hsem : (DmaTarget.remote (Dev.tc dev) dst (.dma ss) hsc : DmaTarget nD τ sig .tc .vmem S1024x1024 .bf16).Typed .vmem (.dma rs)}
    (hk : St A W K c j (g.val + 1) a (busy c g.val) Y ⊢ wp frame (wpE defs 𝒱₀ (c : Thread nD τ) none) Set.univ (k ⟨⟩) Q) :
    St A W K c j g.val a (full A W c g.val) Y
      ⊢ wp frame (wpE defs 𝒱₀ (c : Thread nD τ) none) Set.univ (.op (.enqueueDma (p := .tc) src (.remote (Dev.tc dev) dst (.dma ss) hsc) (.dma rs) hsrc hdst hsem) k) Q := by
  subst e₁ e₂ e₃ e₄ e₅
  have hr : g.val / 2 < 4 := by have := g.isLt; omega
  unfold St full slotAt sFill owesN
  iintro ⟨#Hctx, Ht, Ha, Ho, ⟨%Wt, HO⟩, Hs, Hr, ⟨⟨Hat, #Hre⟩, ⟨%f, Hf, %hf⟩⟩, HY⟩
  ihave Hs' := (sends_step c g) $$ Hs
  icases Hs' with ⟨⟨Htok, ⟨%fd, Hd⟩, #HreP⟩, Hs⟩
  unfold sendTok
  icases Htok with ⟨Htok1, Htok2⟩
  iapply (Rounds.wp_send_pointsTo 𝒱₀ ER (sched A W) (c : Thread nD τ) none (c' := (peer c : Thread nD τ)) (src := sSlot (sl g.val)) (dst := rSlot g)
      (sS := .dma (sSem (sl g.val))) (sem := .dma (rSem g)) (q := fullShare) (fs := f) (κ₁ := K (sCell c (sl g.val))) (κ₂ := K (rCell (peer c) g))
      (r₁ := g.val / 2) (r₂ := 0) (d₁ := ()) (d₂ := ()) (fd := fd)
      (by rw [duties_s A W c _ _ hr]; exact Finset.mem_singleton_self _) (by rw [duties_r]; exact Finset.mem_singleton_self _)
      () () N rfl rfl rfl (owed c (g.val + 1)) (owed_step c g) (W := Wt)
      (by rw [payload_s]; unfold sendPay sPts; rw [sSlot_set]; iintro H; iexists f; iexact H)
      (by
        rw [payload_r]; unfold recvPay rPts; rw [rSlot_set]
        exact Entails.of_eq (pointsTo_congr (ℓ := ((peer c : Dev nD) : Thread nD τ).loc cc0_scratch2) fun x hx => sent_eq A W c g (sl g.val) rfl f hf fd x hx))) $$ [Hf Hd HO Htok1 Htok2]
  · isplitr; · iapply (ctx_s A W K c (sl g.val)); iexact Hctx
    isplitr; · iapply (ctx_p A W K c g); iexact Hctx
    isplitl [Hf]; · rw [sSlot_set]; unfold sPts; iexact Hf
    isplitl [Hd]; · rw [rSlot_set]; unfold rPts; iexact Hd
    isplitl [HO]; · iexact HO
    isplitl [Htok1]; · iexact Htok1
    isplitr; · iexact Hre
    isplitl [Htok2]; · iexact Htok2
    iexact HreP
  iintro ⟨Hc, HO⟩
  iapply hk
  unfold St busy owesN
  isplitr; · iexact Hctx
  isplitl [Ht]; · iexact Ht
  isplitl [Ha]; · iexact Ha
  isplitl [Ho]; · iexact Ho
  isplitl [HO]; · iexists _; iexact HO
  isplitl [Hs]; · iexact Hs
  isplitl [Hr]; · iexact Hr
  isplitr [HY]
  · isplitl [Hc] <;> iassumption
  · iexact HY

/-- Waiting for the send of group `g`: its slot is free for group `g + 2`. -/
theorem step_sent (c : Dev nD) (j n a g : ℕ) (hg : g < 8) {src dst : Memref sig .tc .vmem S1024x1024 .bf16} {sm : DmaSem sig}
    (e : sm = sSem (sl g)) (e₂ : dst = sSlot (sl g)) {hsrc : src.view.WordExact} {hdst : dst.view.WordExact}
    (hk : St A W K c j n a (ready c (g + 2)) Y ⊢ wp frame (wpE defs 𝒱₀ (c : Thread nD τ) none) Set.univ (k ⟨⟩) Q) :
    St A W K c j n a (busy c g) Y
      ⊢ wp frame (wpE defs 𝒱₀ (c : Thread nD τ) none) Set.univ (.op (.waitDma2 (p := .tc) sm src dst hsrc hdst) k) Q := by
  subst e e₂
  have hN : (sSlot (sl g)).view.dmaCredit = N := rfl
  have hr : g / 2 < 4 := by omega
  have hs : sl (g + 2) = sl g := Fin.ext (by show (g + 2) % 2 = g % 2; omega)
  have hq : (g + 2) / 2 = g / 2 + 1 := by omega
  unfold St busy owesN
  iintro ⟨#Hctx, Ht, Ha, Ho, ⟨%Wt, HO⟩, Hs, Hr, ⟨Hc, Hat⟩, HY⟩
  iapply (Rounds.wp_wait_rest_token 𝒱₀ ER (sched A W) (c : Thread nD τ) none (κ := K (sCell c (sl g)))
      (wpE_waitDma2_eq (src := src) (dst := sSlot (sl g)) (hsrc := hsrc) (hdst := hdst) 𝒱₀ (c : Thread nD τ) none Set.univ) (Set.mem_univ _) () (O := owed c n) (W := Wt) (R := g / 2) (m := 0) (T := ∅)
      ((Nat.zero_add _).trans (hN.trans (expect_s A W c (sl g) _ hr).symm))) $$ [Hc HO Hat]
  · isplitr; · iapply (ctx_s A W K c (sl g)); iexact Hctx
    isplitl [Hc]; · rw [hN]; iexact Hc
    isplitl [HO]; · iexact HO
    isplitr
    · iapply (mayWait c (.dma (sSem (sl g))) n (by rw [lv_low c (sSem (sl g)) (by show 4 + g % 2 < 6; omega)]; omega))
      iapply (ctx_lev A W K c); iexact Hctx
    iexact Hat
  iintro ⟨HO, Hat, Hre, Hpay⟩
  ihave Hp := (Entails.of_eq (rest_s A W c (sl g) _ hr)) $$ Hpay
  iapply hk
  unfold St ready slotAt owesN
  rw [hs, hq, Nat.add_mod_right]
  isplitr; · iexact Hctx
  isplitl [Ht]; · iexact Ht
  isplitl [Ha]; · iexact Ha
  isplitl [Ho]; · iexact Ho
  isplitl [HO]; · iexists _; iexact HO
  isplitl [Hs]; · iexact Hs
  isplitl [Hr]; · iexact Hr
  isplitr [HY]
  · isplitl [Hat Hre]
    · isplitl [Hat] <;> iassumption
    · iexact Hp
  · iexact HY

/-- Waiting for group `g` of the peer and adding it to the result. -/
theorem step_add (c : Dev nD) (j n : ℕ) (g : Fin 8) (hn : g.val < n) (hj : 4 * (g.val + 1) ≤ j) {k : Vec F S1x1024x1024 .bf16 → Vec F S1x1024x1024 .bf16 → PUnit → Prog (TpuEff nD τ sig (Elt F) Λ₀ .tc) α}
    {src dst : Memref sig .tc .vmem S1024x1024 .bf16} {sm : DmaSem sig}
    (e : sm = rSem g) (e₂ : dst = rSlot g) {hsrc : src.view.WordExact} {hdst : dst.view.WordExact}
    {o : Fin 3 → ℕ} (eo : o = ![0, 0, 1024 * g.val]) {ho : ∀ a, o a + S1x1024x1024.size a ≤ S1x1024x8192.size a}
    {hr : ∀ a, (![g.val, 0, 0] : Fin 3 → ℕ) a + S1x1024x1024.size a ≤ S8x1024x1024.size a}
    {l₁ l₃ : oM.view.LoadsAt (Rect.unit (s := S1x1024x8192) o S1x1024x1024.size ho).toLoadRect} {l₂ : rM.view.LoadsAt (Rect.unit (s := S8x1024x1024) ![g.val, 0, 0] S1x1024x1024.size hr).toLoadRect}
    {pay : Vec F S1x1024x1024 .bf16 → Vec F S1x1024x1024 .bf16 → FVec F S1x1024x1024 .bf16} (hp : ∀ u v, pay u v = k0_pay27 u v)
    {q₁} {q₂}
    (hk : ∀ u v, St A W K c j n (g.val + 1) X Y ⊢ wp frame (wpE defs 𝒱₀ (c : Thread nD τ) none) Set.univ (k u v ⟨⟩) Q) :
    St A W K c j n g.val X Y
      ⊢ wp frame (wpE defs 𝒱₀ (c : Thread nD τ) none) Set.univ (.op (.waitDma2 (p := .tc) sm src dst hsrc hdst) fun _ =>
          .op (.load oM (Rect.unit (s := S1x1024x8192) o S1x1024x1024.size ho).toLoadRect l₁) fun u =>
          .op (.load rM (Rect.unit (s := S8x1024x1024) ![g.val, 0, 0] S1x1024x1024.size hr).toLoadRect l₂) fun v =>
          .op (.load oM (Rect.unit (s := S1x1024x8192) o S1x1024x1024.size ho).toLoadRect l₃) fun _ =>
          .op (.store oM (Rect.unit (s := S1x1024x8192) o S1x1024x1024.size ho) (pay u v) Finset.univ q₁ q₂) (k u v)) Q := by
  subst e e₂ eo
  have hN : (rSlot g).view.dmaCredit = N := rfl
  unfold St owesN oPts
  iintro ⟨#Hctx, Ht, Ha, ⟨%f, Ho, %hf⟩, ⟨%Wt, HO⟩, Hs, Hr, HX, HY⟩
  ihave Hr' := (recvs_step A W c g) $$ Hr
  icases Hr' with ⟨⟨Hat, Hc⟩, Hback⟩
  iapply (Rounds.wp_wait_rest_token 𝒱₀ ER (sched A W) (c : Thread nD τ) none (κ := K (rCell c g))
      (wpE_waitDma2_eq (src := src) (dst := rSlot g) (hsrc := hsrc) (hdst := hdst) 𝒱₀ (c : Thread nD τ) none Set.univ) (Set.mem_univ _) () (O := owed c n) (W := Wt) (R := 0) (m := 0) (T := ∅)
      ((Nat.zero_add _).trans (hN.trans (expect_r A W c g).symm))) $$ [Hc HO Hat]
  · isplitr; · iapply (ctx_r A W K c g); iexact Hctx
    isplitl [Hc]; · rw [hN]; iexact Hc
    isplitl [HO]; · iexact HO
    isplitr
    · iapply (mayWait c (.dma (rSem g)) n (by rw [lv_r]; omega))
      iapply (ctx_lev A W K c); iexact Hctx
    iexact Hat
  iintro ⟨HO, Hat, -, Hpay⟩
  ihave Hp := (Entails.of_eq (rest_r A W c g)) $$ Hpay
  unfold recvPay rPts
  iapply (wp_load 𝒱₀ (c : Thread nD τ) none Set.univ (m := oM) (Finset.subset_univ _)) $$ Ho; iintro Ho
  iapply (wp_load 𝒱₀ (c : Thread nD τ) none Set.univ (m := rM) (r_sub g.val hr)) $$ Hp; iintro Hp
  iapply (wp_load 𝒱₀ (c : Thread nD τ) none Set.univ (m := oM) (Finset.subset_univ _)) $$ Ho; iintro Ho
  iapply (wp_store 𝒱₀ (c : Thread nD τ) none Set.univ (m := oM) (r := Rect.unit (s := S1x1024x8192) ![0, 0, 1024 * g.val] S1x1024x1024.size ho) (Finset.subset_univ _)) $$ Ho; iintro Ho
  iapply hk _ _
  unfold St owesN oPts
  isplitr; · iexact Hctx
  isplitl [Ht]; · iexact Ht
  isplitl [Ha]; · iexact Ha
  isplitl [Ho]
  · iexists _
    isplitl [Ho]; · iexact Ho
    ipureintro
    rw [hp, load_o A W c g.val (256 * j) f hf (by omega), load_r]
    exact store_add A W c g.val (256 * j) (by omega) f hf ho
  isplitl [HO]; · iexists _; iexact HO
  isplitl [Hs]; · iexact Hs
  isplitl [Hback Hat Hp]
  · iapply Hback
    isplitl [Hat]; · iexact Hat
    iexact Hp
  isplitl [HX] <;> iassumption

/-- The loop of group `g`: four trips fill the group's slot. -/
theorem step_loop (c : Dev nD) (n a g : ℕ) (ha : a ≤ g) {lb ub st : BitVec 32} {hok : Scf.OK lb ub st} {u : Unit} {body : Fin (Scf.trips lb ub st) → Unit → Prog (TpuEff nD τ sig (Elt F) Λ₀ .tc) Unit}
    (ht : Scf.trips lb ub st = 4) (T : Fin (Scf.trips lb ub st) → TripOff) (hT : ∀ k, (T k).At c (4 * g + k.val))
    (v : Fin (Scf.trips lb ub st) → BitVec 32) (hb : ∀ k u, body k u = trip (T k) (v k)) {kk : Unit → Prog (TpuEff nD τ sig (Elt F) Λ₀ .tc) α}
    (hk : St A W K c (4 * (g + 1)) n a (full A W c g) Y ⊢ wp frame (wpE defs 𝒱₀ (c : Thread nD τ) none) Set.univ (kk ⟨⟩) Q) :
    St A W K c (4 * g) n a (ready c g) Y
      ⊢ wp frame (wpE defs 𝒱₀ (c : Thread nD τ) none) Set.univ (Scf.for lb ub st hok u body >>= kk) Q := by
  unfold St ready sendPay
  iintro ⟨#Hctx, Ht, Ha, Ho, HO, Hs, Hr, ⟨Hat, ⟨%f, Hf⟩⟩, HY⟩
  iapply (Scf.wp_for_bind frame (wpE defs 𝒱₀ (c : Thread nD τ) none) Set.univ lb ub st hok u body (fun k _ => tripSt A W c g a n k) (fun k acc => by
    rw [hb]; exact wp_trip A W c g a n k.val (ht ▸ k.isLt) ha (T k) (hT k) (v k))) $$ [Ht Ha Ho HO Hf]
  · unfold tripSt sFill
    isplitr; · iapply (ctx_lev A W K c); iexact Hctx
    isplitl [Ht]; · iexact Ht
    isplitl [Ha]; · iexact Ha
    isplitl [Hf]
    · iexists f
      isplitl [Hf]; · iexact Hf
      ipureintro
      intro x _ hx; omega
    isplitl [Ho]; · iexact Ho
    iexact HO
  iintro %acc
  rw [ht]
  unfold tripSt
  iintro ⟨-, Ht, Ha, Hf, Ho, HO⟩
  iapply hk
  unfold St full
  isplitr; · iexact Hctx
  isplitl [Ht]; · iexact Ht
  isplitl [Ha]; · iexact Ha
  isplitl [Ho]; · iexact Ho
  isplitl [HO]; · iexact HO
  isplitl [Hs]; · iexact Hs
  isplitl [Hr]; · iexact Hr
  isplitr [HY]
  · isplitl [Hat] <;> iassumption
  · iexact HY

end Steps

end Cert.KernelIdeal.Own

end
-- ==== Proof.KernelIdeal.Body.lean ====
module

public import proofs.«01_k».proof.Proof.KernelIdeal.Steps

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (A : Dev nD → S2048x4096.Idx → Elt F .bf16) (W : Dev nD → S4096x8192.Idx → Elt F .f32) (K : GSem nD τ sig → ℕ)

/-! ## The device every signal and transfer goes to -/

theorem dev1_eq (c : Dev nD) : (⟨k0_dev1 c, k0_dev1_lt c⟩ : Dev nD) = peer c := by revert c; decide
theorem dev2_eq (c : Dev nD) : (⟨k0_dev2 c, k0_dev2_lt c⟩ : Dev nD) = peer c := by revert c; decide
theorem dev3_eq (c : Dev nD) : (⟨k0_dev3 c, k0_dev3_lt c⟩ : Dev nD) = peer c := by revert c; decide
theorem dev4_eq (c : Dev nD) : (⟨k0_dev4 c, k0_dev4_lt c⟩ : Dev nD) = peer c := by revert c; decide
theorem dev5_eq (c : Dev nD) : (⟨k0_dev5 c, k0_dev5_lt c⟩ : Dev nD) = peer c := by revert c; decide
theorem dev6_eq (c : Dev nD) : (⟨k0_dev6 c, k0_dev6_lt c⟩ : Dev nD) = peer c := by revert c; decide
theorem dev7_eq (c : Dev nD) : (⟨k0_dev7 c, k0_dev7_lt c⟩ : Dev nD) = peer c := by revert c; decide
theorem dev8_eq (c : Dev nD) : (⟨k0_dev8 c, k0_dev8_lt c⟩ : Dev nD) = peer c := by revert c; decide
theorem dev9_eq (c : Dev nD) : (⟨k0_dev9 c, k0_dev9_lt c⟩ : Dev nD) = peer c := by revert c; decide

/-! ## Every group's addition is the first one's -/

theorem add0_eq (u v : Vec F S1x1024x1024 .bf16) : k0_pay27 u v = k0_pay27 u v := rfl
theorem add1_eq (u v : Vec F S1x1024x1024 .bf16) : k0_pay29 u v = k0_pay27 u v := rfl
theorem add2_eq (u v : Vec F S1x1024x1024 .bf16) : k0_pay31 u v = k0_pay27 u v := rfl
theorem add3_eq (u v : Vec F S1x1024x1024 .bf16) : k0_pay33 u v = k0_pay27 u v := rfl
theorem add4_eq (u v : Vec F S1x1024x1024 .bf16) : k0_pay37 (k0_pay35 u) (k0_pay36 v) = k0_pay27 u v := rfl
theorem add5_eq (u v : Vec F S1x1024x1024 .bf16) : k0_pay39 u v = k0_pay27 u v := rfl
theorem add6_eq (u v : Vec F S1x1024x1024 .bf16) : k0_pay41 u v = k0_pay27 u v := rfl
theorem add7_eq (u v : Vec F S1x1024x1024 .bf16) : k0_pay42 u v = k0_pay27 u v := rfl

variable {defs : Defs nD τ sig (Elt F) Λ₀}

/-- The body from its opening state to its closing one. -/
theorem body_run (c : Dev nD) :
    Pre A W K c ⊢ wp frame (wpE defs 𝒱₀ (c : Thread nD τ) none) Set.univ
      (cc0_body (F := F) aM (Memref.isWhole_whole _) wM (Memref.isWhole_whole _) oM (Memref.isWhole_whole _) bM (Memref.isWhole_whole _)
        sM (Memref.isWhole_whole _) rM (Memref.isWhole_whole _) cc0_scratch3 cc0_scratch4 cc0_scratch5) (fun _ => Post A W c) := by
  rw [cc0_body_eq_skeleton]
  unfold cc0_body_skel
  rw [k0_part9_eq_skeleton, k0_part10_eq_skeleton]
  unfold k0_part9_skel k0_part10_skel
  simp only [Prog.lift, Prog.bind_op, Prog.bind_ret, Prog.pure_eq_ret, bind_assoc, wp_deviceId]
  refine step_open A W K c rfl rfl (wSem_eq 0 _ _) (dev1_eq c) ?_
  refine step_loop A W K c 0 0 0 (by decide) rfl (toff0 c) (toff0_at c) _ (body0_eq c _ _) ?_
  refine step_send A W K c 4 0 0 rfl rfl (dev2_eq c) (sSem_eq 0 _ _) (rSem_eq 0 _ _) ?_
  refine (St_swap A W K c _ _ _ _ _).trans ?_
  refine step_loop A W K c 1 0 1 (by decide) rfl (toff1 c) (toff1_at c) _ (body1_eq c _ _ _ _ _ _) ?_
  refine step_send A W K c 8 1 0 rfl rfl (dev3_eq c) (sSem_eq 1 _ _) (rSem_eq 1 _ _) ?_
  rw [k0_part11_eq_skeleton]
  unfold k0_part11_skel
  simp only [Prog.lift, Prog.bind_op, Prog.bind_ret, Prog.pure_eq_ret, bind_assoc, wp_deviceId]
  refine step_add A W K c 8 2 0 (by decide) (by decide) (rSem_eq 0 _ _) rfl rfl (pay := k0_pay27) add0_eq fun _ _ => ?_
  refine (St_swap A W K c _ _ _ _ _).trans ?_
  refine step_sent A W K c 8 2 1 0 (by decide) (sSem_eq 0 _ _) rfl ?_
  refine step_loop A W K c 2 1 2 (by decide) rfl (toff2 c) (toff2_at c) _ (body2_eq c _ _ _ _) ?_
  rw [k0_part12_eq_skeleton]
  unfold k0_part12_skel
  simp only [Prog.lift, Prog.bind_op, Prog.bind_ret, Prog.pure_eq_ret, bind_assoc, wp_deviceId]
  refine step_send A W K c 12 2 1 rfl rfl (dev4_eq c) (sSem_eq 0 _ _) (rSem_eq 2 _ _) ?_
  refine step_add A W K c 12 3 1 (by decide) (by decide) (rSem_eq 1 _ _) rfl rfl (pay := k0_pay29) add1_eq fun _ _ => ?_
  rw [k0_part13_eq_skeleton, k0_part14_eq_skeleton]
  unfold k0_part13_skel k0_part14_skel
  simp only [Prog.lift, Prog.bind_op, Prog.bind_ret, Prog.pure_eq_ret, bind_assoc, wp_deviceId]
  refine (St_swap A W K c _ _ _ _ _).trans ?_
  refine step_sent A W K c 12 3 2 1 (by decide) (sSem_eq 1 _ _) rfl ?_
  refine step_loop A W K c 3 2 3 (by decide) rfl (toff3 c) (toff3_at c) _ (body3_eq c _ _ _ _) ?_
  refine step_send A W K c 16 3 2 rfl rfl (dev5_eq c) (sSem_eq 1 _ _) (rSem_eq 3 _ _) ?_
  refine step_add A W K c 16 4 2 (by decide) (by decide) (rSem_eq 2 _ _) rfl rfl (pay := k0_pay31) add2_eq fun _ _ => ?_
  refine (St_swap A W K c _ _ _ _ _).trans ?_
  refine step_sent A W K c 16 4 3 2 (by decide) (sSem_eq 0 _ _) rfl ?_
  refine step_loop A W K c 4 3 4 (by decide) rfl (toff4 c) (toff4_at c) _ (body4_eq c _ _ _ _) ?_
  rw [k0_part15_eq_skeleton]
  unfold k0_part15_skel
  simp only [Prog.lift, Prog.bind_op, Prog.bind_ret, Prog.pure_eq_ret, bind_assoc, wp_deviceId]
  refine step_send A W K c 20 4 3 rfl rfl (dev6_eq c) (sSem_eq 0 _ _) (rSem_eq 4 _ _) ?_
  refine step_add A W K c 20 5 3 (by decide) (by decide) (rSem_eq 3 _ _) rfl rfl (pay := k0_pay33) add3_eq fun _ _ => ?_
  refine (St_swap A W K c _ _ _ _ _).trans ?_
  refine step_sent A W K c 20 5 4 3 (by decide) (sSem_eq 1 _ _) rfl ?_
  rw [k0_part16_eq_skeleton, k0_part17_eq_skeleton]
  unfold k0_part16_skel k0_part17_skel
  simp only [Prog.lift, Prog.bind_op, Prog.bind_ret, Prog.pure_eq_ret, bind_assoc, wp_deviceId]
  refine step_loop A W K c 5 4 5 (by decide) rfl (toff5 c) (toff5_at c) _ (body5_eq c _ _ _ _ _ _) ?_
  refine step_send A W K c 24 5 4 rfl rfl (dev7_eq c) (sSem_eq 1 _ _) (rSem_eq 5 _ _) ?_
  refine step_add A W K c 24 6 4 (by decide) (by decide) (rSem_eq 4 _ _) rfl rfl (pay := fun u v => k0_pay37 (k0_pay35 u) (k0_pay36 v)) add4_eq fun _ _ => ?_
  refine (St_swap A W K c _ _ _ _ _).trans ?_
  refine step_sent A W K c 24 6 5 4 (by decide) (sSem_eq 0 _ _) rfl ?_
  refine step_loop A W K c 6 5 6 (by decide) rfl (toff6 c) (toff6_at c) _ (body6_eq c _ _ _ _ _ _) ?_
  refine step_send A W K c 28 6 5 rfl rfl (dev8_eq c) (sSem_eq 0 _ _) (rSem_eq 6 _ _) ?_
  rw [k0_part18_eq_skeleton]
  unfold k0_part18_skel
  simp only [Prog.lift, Prog.bind_op, Prog.bind_ret, Prog.pure_eq_ret, bind_assoc, wp_deviceId]
  refine step_add A W K c 28 7 5 (by decide) (by decide) (rSem_eq 5 _ _) rfl rfl (pay := k0_pay39) add5_eq fun _ _ => ?_
  refine (St_swap A W K c _ _ _ _ _).trans ?_
  refine step_sent A W K c 28 7 6 5 (by decide) (sSem_eq 1 _ _) rfl ?_
  refine step_loop A W K c 7 6 7 (by decide) rfl (toff7 c) (toff7_at c) _ (body7_eq c _ _ _ _) ?_
  rw [k0_part19_eq_skeleton, k0_part20_eq_skeleton]
  unfold k0_part19_skel k0_part20_skel
  simp only [Prog.lift, Prog.bind_op, Prog.bind_ret, Prog.pure_eq_ret, bind_assoc, wp_deviceId]
  refine step_send A W K c 32 7 6 rfl rfl (dev9_eq c) (sSem_eq 1 _ _) (rSem_eq 7 _ _) ?_
  refine step_add A W K c 32 8 6 (by decide) (by decide) (rSem_eq 6 _ _) rfl rfl (pay := k0_pay41) add6_eq fun _ _ => ?_
  refine step_add A W K c 32 8 7 (by decide) (by decide) (rSem_eq 7 _ _) rfl rfl (pay := k0_pay42) add7_eq fun _ _ => ?_
  refine (St_swap A W K c _ _ _ _ _).trans ?_
  refine step_sent A W K c 32 8 8 6 (by decide) (sSem_eq 0 _ _) rfl ?_
  refine (St_swap A W K c _ _ _ _ _).trans ?_
  refine step_sent A W K c 32 8 8 7 (by decide) (sSem_eq 1 _ _) rfl ?_
  refine (St_swap A W K c _ _ _ _ _).trans ?_
  rw [wp_ret]
  exact St_end A W K c

end Cert.KernelIdeal.Own

end
-- ==== Proof.KernelIdeal.Region.lean ====
module

public import proofs.«01_k».proof.Proof.KernelIdeal.Body
public import proofs.«01_k».proof.Proof.Gen.KernelIdeal.Frame
public import Idealize.ShloMosaic.Lib.Pipeline.RegionTalk
public import Idealize.ShloMosaic.Lib.Pipeline.FrameTail
public import Idealize.ShloMosaic.Lib.Ring
public import Idealize.ShloMosaic.Harness.Basic

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Idealize.ShloMosaic.Pipeline (Dat Cfg Window BodyObligation cellOf)
open Cert.KernelIdeal.Gen

variable {F : FTy → Type} [FloatOps F]

local notation "𝕄" => MT nD τ sig Unit (Elt F) ℕ UU ℕ

/-! ## Buffers in slots -/

omit [FloatOps F] in
theorem any_intro {ℓ : Loc nD τ sig} (I : Finset (Idx ℓ)) (f : Buf (Elt F) ℓ) :
    (ℓ ↦[I]{fullShare} f : sProp 𝕄) ⊢ iprop(∃ f, ℓ ↦[I]{fullShare} f) := by
  iintro H; iexists f; iexact H

omit [FloatOps F] in
/-- A buffer held at some contents is its slots, each held at some contents; -/
theorem split_any {n : ℕ} {ℓ : Loc nD τ sig} (I : Fin n → Finset (Idx ℓ)) (hd : ∀ b b', b ≠ b' → Disjoint (I b) (I b'))
    (hc : Finset.univ.biUnion I = Finset.univ) :
    (iprop(∃ f, ℓ ↦{fullShare} f) : sProp 𝕄) ⊢ bigSep Finset.univ fun b => iprop(∃ f, ℓ ↦[I b]{fullShare} f) := by
  iintro ⟨%f, H⟩
  ihave H' := (Entails.of_eq (Ring.pointsTo_blocks I hd hc f)) $$ H
  iapply (show bigSep Finset.univ (fun b => (ℓ ↦[I b]{fullShare} f : sProp 𝕄)) ⊢ bigSep Finset.univ fun b => iprop(∃ f, ℓ ↦[I b]{fullShare} f) from
    bigSep_mono fun b _ => any_intro (I b) f) $$ H'

/-- and the slots are the buffer. -/
theorem join_any {n : ℕ} {ℓ : Loc nD τ sig} (I : Fin n → Finset (Idx ℓ)) (hd : ∀ b b', b ≠ b' → Disjoint (I b) (I b'))
    (hc : Finset.univ.biUnion I = Finset.univ) :
    (bigSep Finset.univ fun b => iprop(∃ f, ℓ ↦[I b]{fullShare} f)) ⊢ (iprop(∃ f, ℓ ↦{fullShare} f) : sProp 𝕄) :=
  Ring.pointsTo_blocks_join_exists I hd hc fun _ => Classical.choice inferInstance

theorem sSet_disj (b b' : Fin 2) (h : b ≠ b') : Disjoint (sSet b.val) (sSet b'.val) :=
  Finset.disjoint_left.2 fun _ hx hx' => h (Fin.ext ((mem_sSet.1 hx).symm.trans (mem_sSet.1 hx')))
theorem rSet_disj (b b' : Fin 8) (h : b ≠ b') : Disjoint (rSet b.val) (rSet b'.val) :=
  Finset.disjoint_left.2 fun _ hx hx' => h (Fin.ext ((mem_rSet.1 hx).symm.trans (mem_rSet.1 hx')))
theorem bSet_disj (b b' : Fin 2) (h : b ≠ b') : Disjoint (bSet b.val) (bSet b'.val) :=
  Finset.disjoint_left.2 fun _ hx hx' => h (Fin.ext ((mem_bSet.1 hx).symm.trans (mem_bSet.1 hx')))
theorem sSet_cover : (Finset.univ.biUnion fun b : Fin 2 => sSet b.val) = Finset.univ :=
  Finset.eq_univ_iff_forall.2 fun x => Finset.mem_biUnion.2 ⟨⟨(x 0).val, (x 0).isLt⟩, Finset.mem_univ _, mem_sSet.2 rfl⟩
theorem rSet_cover : (Finset.univ.biUnion fun b : Fin 8 => rSet b.val) = Finset.univ :=
  Finset.eq_univ_iff_forall.2 fun x => Finset.mem_biUnion.2 ⟨⟨(x 0).val, (x 0).isLt⟩, Finset.mem_univ _, mem_rSet.2 rfl⟩
theorem bSet_cover : (Finset.univ.biUnion fun b : Fin 2 => bSet b.val) = Finset.univ :=
  Finset.eq_univ_iff_forall.2 fun x => Finset.mem_biUnion.2 ⟨⟨(x 0).val, (x 0).isLt⟩, Finset.mem_univ _, mem_bSet.2 rfl⟩

abbrev scratch0 (c : Dev nD) : sProp 𝕄 := iprop(∃ f : Buf (Elt F) ((c : Thread nD τ).loc cc0_scratch0), ((c : Thread nD τ).loc cc0_scratch0) ↦{fullShare} f)
abbrev scratch1 (c : Dev nD) : sProp 𝕄 := iprop(∃ f : Buf (Elt F) ((c : Thread nD τ).loc cc0_scratch1), ((c : Thread nD τ).loc cc0_scratch1) ↦{fullShare} f)
abbrev scratch2 (c : Dev nD) : sProp 𝕄 := iprop(∃ f : Buf (Elt F) ((c : Thread nD τ).loc cc0_scratch2), ((c : Thread nD τ).loc cc0_scratch2) ↦{fullShare} f)
abbrev rAny (c : Dev nD) : sProp 𝕄 := bigSep Finset.univ fun g : Fin 8 => iprop(∃ f, rPts c g.val f)

omit [FloatOps F] in
theorem b_split (c : Dev nD) : (scratch0 (F := F) c) ⊢ iprop((∃ f, bPts c 0 f) ∗ ∃ f, bPts c 1 f) :=
  (split_any (ℓ := (c : Thread nD τ).loc cc0_scratch0) (fun b : Fin 2 => bSet b.val) bSet_disj bSet_cover).trans (Entails.of_eq (BI.bigSep_fin_two _))
omit [FloatOps F] in
theorem s_split (c : Dev nD) : (scratch1 (F := F) c) ⊢ iprop(sendPay c 0 ∗ sendPay c 1) :=
  (split_any (ℓ := (c : Thread nD τ).loc cc0_scratch1) (fun b : Fin 2 => sSet b.val) sSet_disj sSet_cover).trans (Entails.of_eq (BI.bigSep_fin_two _))
omit [FloatOps F] in
theorem r_split (c : Dev nD) : (scratch2 (F := F) c) ⊢ rAny c :=
  split_any (ℓ := (c : Thread nD τ).loc cc0_scratch2) (fun b : Fin 8 => rSet b.val) rSet_disj rSet_cover
theorem b_join (c : Dev nD) : iprop((∃ f, bPts c 0 f) ∗ ∃ f, bPts c 1 f) ⊢ (scratch0 (F := F) c) :=
  (Entails.of_eq (BI.bigSep_fin_two fun b : Fin 2 => iprop(∃ f, bPts (F := F) c b.val f)).symm).trans
    (join_any (ℓ := (c : Thread nD τ).loc cc0_scratch0) (fun b : Fin 2 => bSet b.val) bSet_disj bSet_cover)
theorem s_join (c : Dev nD) : iprop(sendPay c 0 ∗ sendPay c 1) ⊢ (scratch1 (F := F) c) :=
  (Entails.of_eq (BI.bigSep_fin_two fun b : Fin 2 => sendPay (F := F) c b.val).symm).trans
    (join_any (ℓ := (c : Thread nD τ).loc cc0_scratch1) (fun b : Fin 2 => sSet b.val) sSet_disj sSet_cover)
theorem r_join (c : Dev nD) : rAny c ⊢ (scratch2 (F := F) c) :=
  join_any (ℓ := (c : Thread nD τ).loc cc0_scratch2) (fun b : Fin 8 => rSet b.val) rSet_disj rSet_cover

/-- The right factor whole is the right factor at the two slots' shares. -/
theorem w_shares (W : Dev nD → S4096x8192.Idx → Elt F .f32) (c : Dev nD) :
    (((c : Thread nD τ).loc main_arg1) ↦{fullShare} W c : sProp 𝕄) ⊣⊢ iprop(wPts W c 0 Finset.univ ∗ wPts W c 1 Finset.univ) :=
  pointsTo_share (PosShare.mem_left_op_right fullShare)

/-! ## The kernel's own semaphores -/

/-- Two of tile slots, two of send slots, eight of receive slots. -/
def osem : Fin 2 ⊕ Fin 2 ⊕ Fin 8 → SemLoc sig
  | .inl s => .dma (wSem s)
  | .inr (.inl s) => .dma (sSem s)
  | .inr (.inr g) => .dma (rSem g)

theorem osem_facts : Pipeline.OwnSemFacts spec0 osem := by decide

omit [FloatOps F] in
theorem ownSems_eq (c : Dev nD) : (Pipeline.ownSems0 osem c : sProp 𝕄)
    = iprop((semVal (wCell c 0) 0 ∗ semVal (wCell c 1) 0) ∗ (bigSep Finset.univ fun s : Fin 2 => semVal (sCell c s) 0)
      ∗ bigSep Finset.univ fun g : Fin 8 => semVal (rCell c g) 0) := by
  unfold Pipeline.ownSems0
  rw [bigSep_univ_sum, bigSep_univ_sum, BI.bigSep_fin_two]
  rfl

/-! ## What the region is entered with -/

variable (A : Dev nD → S2048x4096.Idx → Elt F .bf16) (W : Dev nD → S4096x8192.Idx → Elt F .f32)

/-- What a device carries from the launch: the invariants, its place at its barrier cell, the right to open its other cells,
    what it waits with, and what it pays with. -/
def kept (K : GSem nD τ sig → ℕ) (c : Dev nD) : sProp 𝕄 :=
  iprop((cellInv ER (sched A W) (K (barCell c)) (barCell c) ∗ cellInv ER (sched A W) (K (barCell (peer c))) (barCell (peer c))
      ∗ (bigSep Finset.univ fun s : Fin 2 => cellInv ER (sched A W) (K (sCell c s)) (sCell c s))
      ∗ (bigSep Finset.univ fun g : Fin 8 => cellInv ER (sched A W) (K (rCell c g)) (rCell c g))
      ∗ bigSep Finset.univ fun g : Fin 8 => cellInv ER (sched A W) (K (rCell (peer c) g)) (rCell (peer c) g))
    ∗ (bigSep Finset.univ fun s : Fin 2 => openTok ER (sCell c s)) ∗ (bigSep Finset.univ fun g : Fin 8 => openTok ER (rCell c g))
    ∗ (bigSep Finset.univ fun g : Fin 8 => cred (tallyAt (rCell c g) () N)) ∗ (bigSep Finset.univ fun g : Fin 8 => sendTok c g)
    ∗ (atPos ER (barCell c) 0 ∅ 0 ∗ cred (tallyAt (barCell c) () 1)) ∗ dutyTok ER (barCell (peer c)) 0 () ∗ reached ER (barCell (peer c)) 0)
def Tk (c : Dev nD) : sProp 𝕄 := iprop(∃ K, kept A W K c)

/-- The same with its cells open. -/
def opened (K : GSem nD τ sig → ℕ) (c : Dev nD) : sProp 𝕄 :=
  iprop(ctx A W K c ∗ (semVal (wCell c 0) 0 ∗ semVal (wCell c 1) 0) ∗ (bigSep Finset.univ fun g : Fin 8 => sendTok c g)
    ∗ (bigSep Finset.univ fun g : Fin 8 => reached ER (rCell c g) 0) ∗ recvs A W c 0 ∗ slotAt c 0 ∗ slotAt c 1
    ∗ (atPos ER (barCell c) 0 ∅ 0 ∗ cred (tallyAt (barCell c) () 1)) ∗ dutyTok ER (barCell (peer c)) 0 () ∗ reached ER (barCell (peer c)) 0)
def Xk (c : Dev nD) : sProp 𝕄 := iprop(∃ K, opened A W K c)
def Yk (c : Dev nD) : sProp 𝕄 := semVal (barCell c) 0

/-- Opening a family of cells. -/
theorem open_all {n : ℕ} (K : GSem nD τ sig → ℕ) (g : Fin n → GSem nD τ sig) :
    iprop((bigSep Finset.univ fun i => cellInv ER (sched A W) (K (g i)) (g i)) ∗ (bigSep Finset.univ fun i => openTok ER (g i))
        ∗ bigSep Finset.univ fun i => semVal (g i) 0)
      ⊢ (|={Set.univ}=> iprop((bigSep Finset.univ fun i => atPos ER (g i) 0 ∅ 0) ∗ bigSep Finset.univ fun i => reached ER (g i) 0) : sProp 𝕄) := by
  have h : (bigSep Finset.univ fun i => iprop(cellInv ER (sched A W) (K (g i)) (g i) ∗ openTok ER (g i) ∗ semVal (g i) 0))
      ⊢ (|={Set.univ}=> bigSep Finset.univ fun i => iprop(atPos ER (g i) 0 ∅ 0 ∗ reached ER (g i) 0) : sProp 𝕄) :=
    (bigSep_mono fun i _ => Rounds.cell_open ER (sched A W) (g := g i) (Set.mem_univ (K (g i)))).trans (BI.bigSep_fupd _ _)
  iintro ⟨HI, Ho, Hv⟩
  imod h $$ [HI Ho Hv] with H
  · iapply bigSep_pair; isplitl [HI]; · iexact HI
    iapply bigSep_pair; isplitl [Ho] <;> iassumption
  imodintro
  iapply bigSep_unpair; iexact H

theorem recvs_start (c : Dev nD) : iprop((bigSep Finset.univ fun g : Fin 8 => atPos ER (rCell c g) 0 ∅ 0)
    ∗ bigSep Finset.univ fun g : Fin 8 => cred (tallyAt (rCell c g) () N)) ⊢ recvs A W c 0 := by
  unfold recvs
  refine bigSep_pair.trans (Entails.of_eq (bigSep_congr fun g _ => ?_))
  exact (if_neg (Nat.not_lt_zero _)).symm

omit [FloatOps F] in
theorem slots_start (c : Dev nD) : iprop((bigSep Finset.univ fun s : Fin 2 => atPos ER (sCell c s) 0 ∅ 0)
    ∗ bigSep Finset.univ fun s : Fin 2 => reached ER (sCell c s) 0) ⊢ (iprop(slotAt c 0 ∗ slotAt c 1) : sProp 𝕄) := by
  rw [BI.bigSep_fin_two, BI.bigSep_fin_two]
  show iprop((atPos ER (sCell c 0) 0 ∅ 0 ∗ atPos ER (sCell c 1) 0 ∅ 0) ∗ (reached ER (sCell c 0) 0 ∗ reached ER (sCell c 1) 0))
    ⊢ (iprop((atPos ER (sCell c 0) 0 ∅ 0 ∗ reached ER (sCell c 0) 0) ∗ (atPos ER (sCell c 1) 0 ∅ 0 ∗ reached ER (sCell c 1) 0)) : sProp 𝕄)
  iintro ⟨⟨H1, H2⟩, H3, H4⟩
  isplitl [H1 H3]
  · isplitl [H1] <;> iassumption
  · isplitl [H2] <;> iassumption

theorem hopen (c : Dev nD) : iprop(Tk A W c ∗ Pipeline.ownSems0 osem c ∗ levAts L lv) ⊢ (|={Set.univ}=> Xk A W c : sProp 𝕄) := by
  rw [ownSems_eq]
  unfold Tk kept
  iintro ⟨⟨%K, ⟨#HB, #HBp, #HS, #HR, #HRp⟩, HoS, HoR, Hcr, Htok, Hbar, HdP, HrP⟩, ⟨Hw, Hs0, Hr0⟩, #Hlev⟩
  imod (open_all A W K fun s : Fin 2 => sCell c s) $$ [HoS Hs0] with ⟨HaS, HrS⟩
  · isplitr; · iexact HS
    isplitl [HoS] <;> iassumption
  imod (open_all A W K fun g : Fin 8 => rCell c g) $$ [HoR Hr0] with ⟨HaR, HrR⟩
  · isplitr; · iexact HR
    isplitl [HoR] <;> iassumption
  imodintro
  unfold Xk opened ctx
  iexists K
  isplitr
  · isplitr; · iexact Hlev
    isplitr; · iexact HB
    isplitr; · iexact HBp
    isplitr; · iexact HS
    isplitr; · iexact HR
    iexact HRp
  isplitl [Hw]; · iexact Hw
  isplitl [Htok]; · iexact Htok
  isplitl [HrR]; · iexact HrR
  isplitl [HaR Hcr]
  · iapply (recvs_start A W c)
    isplitl [HaR] <;> iassumption
  ihave Hsl := (slots_start c) $$ [HaS HrS]
  · isplitl [HaS] <;> iassumption
  icases Hsl with ⟨H1, H2⟩
  isplitl [H1]; · iexact H1
  isplitl [H2]; · iexact H2
  isplitl [Hbar]; · iexact Hbar
  isplitl [HdP] <;> iassumption

/-! ## The proof data -/

variable (m : (ℓ : Loc nD τ sig) → Buf (Elt F) ℓ)

/-- A device's buffers as the region finds them. -/
def Ve (c : Dev nD) : Valuation τ sig (Elt F) := StableHlo.after hostOps0 fun b => m (c, b)
/-- The two factors as the region finds them. -/
def Am (c : Dev nD) : S2048x4096.Idx → Elt F .bf16 := iblk m c 0 t0_0
def Wm (c : Dev nD) : S4096x8192.Idx → Elt F .f32 := V m c main_arg1

/-- What a device owes at launch: its transfers and its barrier signal. -/
def O₀ (c : Dev nD) : CellTallies nD τ sig Unit := owed c 0 + tallyAt (barCell (peer c)) () 1

/-- Between the region's ends and the body, the staged blocks and the debts aside. -/
def Φ₀ (c : Dev nD) : sProp 𝕄 :=
  iprop(Xk (Am m) (Wm m) c ∗ scratch0 c ∗ scratch1 c ∗ scratch2 c ∗ (((c : Thread nD τ).loc main_arg1) ↦{fullShare} Wm m c) ∗ ∃ r, prngReg c r)
def Φ₁ (c : Dev nD) : sProp 𝕄 :=
  iprop((semVal (barCell c) 0 ∗ Pipeline.ownSems0 osem c) ∗ scratch0 c ∗ scratch1 c ∗ scratch2 c
    ∗ (((c : Thread nD τ).loc main_arg1) ↦{fullShare} Wm m c) ∗ ∃ r, prngReg c r)

def dat (c : Dev nD) : Dat τ (Elt F) Unit ℕ UU ℕ cfg0 c where
  A w := V m c (Pipeline.arrRef spec0 w)
  after w _ := match w with
    | ⟨0, _⟩ => Am m c
    | ⟨1, _⟩ => oCan (Am m) (Wm m) c
  Φ t := if t.val = 0 then Φ₀ m c else Φ₁ m c
  q _ := fullShare
  owed t := if t.val = 0 then O₀ c else 0

theorem before_in (c : Dev nD) (d) : (dat m c).before 0 t0_0 d = Am m c :=
  ((dat m c).before_in_eq_fetched 0 rfl (fun _ => rfl) (fun _ _ _ => rfl) (fun t => by obtain rfl := fin_N0 t; rfl) t0_0 d).trans rfl

theorem owed_first (c : Dev nD) : (dat m c).owed t0_0.castSucc = O₀ c := by
  show (if (t0_0.castSucc : Fin (cfg0.N + 1)).val = 0 then O₀ c else 0) = O₀ c; exact if_pos rfl
theorem owed_last (c : Dev nD) : (dat m c).owed t0_0.succ = 0 := by
  show (if (t0_0.succ : Fin (cfg0.N + 1)).val = 0 then O₀ c else 0) = 0; exact if_neg (Nat.succ_ne_zero _)
theorem Φ_first (c : Dev nD) : (dat m c).Φ t0_0.castSucc = Φ₀ m c := by
  show (if (t0_0.castSucc : Fin (cfg0.N + 1)).val = 0 then Φ₀ m c else Φ₁ m c) = Φ₀ m c; exact if_pos rfl
theorem Φ_last (c : Dev nD) : (dat m c).Φ t0_0.succ = Φ₁ m c := by
  show (if (t0_0.succ : Fin (cfg0.N + 1)).val = 0 then Φ₀ m c else Φ₁ m c) = Φ₁ m c; exact if_neg (Nat.succ_ne_zero _)

/-! ## The body obligation -/

omit [FloatOps F] in
theorem staged (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

theorem pre_intro (K : GSem nD τ sig → ℕ) (c : Dev nD) :
    iprop((opened A W K c ∗ scratch0 c ∗ scratch1 c ∗ scratch2 c ∗ (((c : Thread nD τ).loc main_arg1) ↦{fullShare} W c))
      ∗ aPts A c ∗ (∃ f, ((c : Thread nD τ).loc cc0_stg1_0) ↦{fullShare} f) ∗ (∃ Wt, owes (c : Thread nD τ) (O₀ c) Wt)) ⊢ Pre A W K c := by
  unfold opened Pre ready tileIdle
  iintro ⟨⟨⟨Hctx, ⟨Hw0, Hw1⟩, Htok, HrR, Hrecv, Hsl0, Hsl1, Hbar, HdP, HrP⟩, Hb, Hs, Hr, HW⟩, Ha, Ho, HO⟩
  ihave Hb' := (b_split c) $$ Hb
  icases Hb' with ⟨Hb0, Hb1⟩
  ihave Hs' := (s_split c) $$ Hs
  icases Hs' with ⟨Hs0, Hs1⟩
  ihave Hr' := (r_split c) $$ Hr
  ihave HW' := (w_shares W c).1 $$ HW
  icases HW' with ⟨HW0, HW1⟩
  isplitl [Hctx]; · iexact Hctx
  isplitl [Hw0 Hb0 HW0]
  · isplitl [Hw0]; · iexact Hw0
    isplitl [Hb0]; · iexact Hb0
    iexact HW0
  isplitl [Hw1 Hb1 HW1]
  · isplitl [Hw1]; · iexact Hw1
    isplitl [Hb1]; · iexact Hb1
    iexact HW1
  isplitl [Ha]; · iexact Ha
  isplitl [Ho]; · iexact Ho
  isplitl [HO]; · iexact HO
  isplitl [Htok]; · iexact Htok
  isplitl [Hr']; · iexact Hr'
  isplitl [HrR]; · iexact HrR
  isplitl [Hrecv]; · iexact Hrecv
  isplitl [Hsl0 Hs0]
  · isplitl [Hsl0]; · iexact Hsl0
    iexact Hs0
  isplitl [Hsl1 Hs1]
  · isplitl [Hsl1]; · iexact Hsl1
    iexact Hs1
  isplitl [Hbar]; · iexact Hbar
  isplitl [HdP] <;> iassumption

theorem post_elim (c : Dev nD) :
    Post A W c ⊢ iprop(((semVal (barCell c) 0 ∗ Pipeline.ownSems0 osem c) ∗ scratch0 c ∗ scratch1 c ∗ scratch2 c
        ∗ (((c : Thread nD τ).loc main_arg1) ↦{fullShare} W c))
      ∗ aPts A c ∗ (((c : Thread nD τ).loc cc0_stg1_0) ↦{fullShare} oCan A W c) ∗ (∃ Wt, owes (c : Thread nD τ) (0 : CellTallies nD τ sig Unit) Wt)) := by
  rw [ownSems_eq]
  unfold Post tileIdle
  iintro ⟨Hb, Hs, Hr, ⟨Hw0, Hb0, HW0⟩, ⟨Hw1, Hb1, HW1⟩, Ha, Ho, HO, Hs0, Hs1, Hrs⟩
  isplitr [Ha Ho HO]
  · isplitl [Hb Hs Hr Hw0 Hw1]
    · isplitl [Hb]; · iexact Hb
      isplitl [Hw0 Hw1]; · isplitl [Hw0] <;> iassumption
      isplitl [Hs] <;> iassumption
    isplitl [Hb0 Hb1]
    · iapply (b_join c)
      isplitl [Hb0]; · iexact Hb0
      iexact Hb1
    isplitl [Hs0 Hs1]
    · iapply (s_join c)
      isplitl [Hs0] <;> iassumption
    isplitl [Hrs]; · iapply (r_join c); iexact Hrs
    iapply (w_shares W c).2
    isplitl [HW0]; · iexact HW0
    iexact HW1
  isplitl [Ha]; · iexact Ha
  isplitl [Ho] <;> iassumption

omit [FloatOps F] in
theorem owesAt_intro {cfg : Pipeline.Cfg sig Λ₀} {c : Dev nD} (d : Dat τ (Elt F) Unit ℕ UU ℕ cfg c) (t : Fin (cfg.N + 1))
    (O : CellTallies nD τ sig Unit) (h0 : d.owed t = O) (hr : d.recorded t = Set.univ) :
    (iprop(∃ Wt, owes (c : Thread nD τ) O Wt) : sProp 𝕄) ⊢ d.owesAt () t := by
  unfold Dat.owesAt Pipeline.owesWithin Dat.bound; rw [h0, hr]
  iintro ⟨%Wt, HO⟩; iexists Wt; isplitr; · ipureintro; exact fun _ _ => Or.inl trivial
  iexact HO
omit [FloatOps F] in
theorem owesAt_elim {cfg : Pipeline.Cfg sig Λ₀} {c : Dev nD} (d : Dat τ (Elt F) Unit ℕ UU ℕ cfg c) (t : Fin (cfg.N + 1))
    (O : CellTallies nD τ sig Unit) (h0 : d.owed t = O) :
    (d.owesAt () t : sProp 𝕄) ⊢ iprop(∃ Wt, owes (c : Thread nD τ) O Wt) := by
  unfold Dat.owesAt Pipeline.owesWithin; rw [h0]
  iintro ⟨%Wt, -, HO⟩; iexists Wt; iexact HO

theorem body (c : Dev nD) : BodyObligation (dat m c) (defs₀ (F := F)) 𝒱₀ () Set.univ := fun t => by
  obtain rfl := fin_N0 t
  rw [bigSep_W0, bigSep_W0, Φ_first, Φ_last]
  simp only [staged]
  show iprop(Φ₀ m c ∗ (dat m c).owesAt () t0_0.castSucc
      ∗ (∃ d, iprop(∃ f : Buf (Elt F) ((c : Thread nD τ).loc cc0_stg0_0), ⌜f = (dat m c).before (0 : Fin 2) t0_0 d⌝ ∗ (((c : Thread nD τ).loc cc0_stg0_0) ↦{fullShare} f)))
      ∗ (∃ d, iprop(∃ f : Buf (Elt F) ((c : Thread nD τ).loc cc0_stg1_0), ⌜f = (dat m c).before (1 : Fin 2) t0_0 d⌝ ∗ (((c : Thread nD τ).loc cc0_stg1_0) ↦{fullShare} f))))
    ⊢ wp frame (wpE (defs₀ (F := F)) 𝒱₀ (c : Thread nD τ) none) Set.univ
      (cc0_body (F := F) aM (Memref.isWhole_whole _) wM (Memref.isWhole_whole _) oM (Memref.isWhole_whole _) bM (Memref.isWhole_whole _)
        sM (Memref.isWhole_whole _) rM (Memref.isWhole_whole _) cc0_scratch3 cc0_scratch4 cc0_scratch5)
      (fun _ => iprop(Φ₁ m c ∗ (dat m c).owesAt () t0_0.succ
        ∗ (∃ f : Buf (Elt F) ((c : Thread nD τ).loc cc0_stg0_0), ⌜f = Am m c⌝ ∗ (((c : Thread nD τ).loc cc0_stg0_0) ↦{fullShare} f))
        ∗ (∃ f : Buf (Elt F) ((c : Thread nD τ).loc cc0_stg1_0), ⌜f = oCan (Am m) (Wm m) c⌝ ∗ (((c : Thread nD τ).loc cc0_stg1_0) ↦{fullShare} f))))
  unfold Φ₀ Xk
  iintro ⟨⟨⟨%K, Hop⟩, Hb, Hs, Hr, HW, Hp⟩, HO, ⟨%d, %f, %hf, Ha⟩, ⟨%d', %f', -, Ho⟩⟩
  ihave HO' := (owesAt_elim (dat m c) t0_0.castSucc (O₀ c) (owed_first m c)) $$ HO
  ihave H := (pre_intro (Am m) (Wm m) K c) $$ [Hop Hb Hs Hr HW Ha Ho HO']
  · isplitl [Hop Hb Hs Hr HW]
    · isplitl [Hop]; · iexact Hop
      isplitl [Hb]; · iexact Hb
      isplitl [Hs]; · iexact Hs
      isplitl [Hr] <;> iassumption
    isplitl [Ha]
    · unfold aPts
      iapply (Entails.of_eq (congrArg (fun g => (((c : Thread nD τ).loc cc0_stg0_0) ↦{fullShare} g : sProp 𝕄)) (hf.trans (before_in m c d)))) $$ Ha
    isplitl [Ho]; · iexists f'; iexact Ho
    iexact HO'
  ihave Hwp := (body_run (Am m) (Wm m) K (defs := defs₀ (F := F)) c) $$ H
  iapply (wp_wand_r _ _ _)
  isplitl [Hwp]; · iexact Hwp
  iintro %a HP
  ihave HP' := (post_elim (Am m) (Wm m) c) $$ HP
  icases HP' with ⟨⟨Hv, Hb, Hs, Hr, HW⟩, Ha, Ho, HO⟩
  isplitl [Hv Hb Hs Hr HW Hp]
  · unfold Φ₁
    isplitl [Hv]; · iexact Hv
    isplitl [Hb]; · iexact Hb
    isplitl [Hs]; · iexact Hs
    isplitl [Hr]; · iexact Hr
    isplitl [HW] <;> iassumption
  isplitl [HO]; · iapply (owesAt_intro (dat m c) t0_0.succ 0 (owed_last m c) rfl); iexact HO
  isplitl [Ha]
  · iexists (Am m c); isplitr; · (ipureintro; rfl)
    unfold aPts; iexact Ha
  iexists (oCan (Am m) (Wm m) c); isplitr; · (ipureintro; rfl)
  iexact Ho

/-! ## The region -/

/-- The buffers the region does not stage; the one of them the body reads itself. -/
def rest : Finset (DevRef τ sig) := {Proc.devRef .tc main_arg0, Proc.devRef .tc main_arg1}
def read : Finset (DevRef τ sig) := {Proc.devRef .tc main_arg1}

omit [FloatOps F] in
theorem held_read (c : Dev nD) (X : Valuation τ sig (Elt F)) :
    (StableHlo.held (c : Thread nD τ) read X : sProp 𝕄) = (((c : Thread nD τ).loc main_arg1) ↦{fullShare} X main_arg1) := by
  unfold StableHlo.held read
  rw [BI.bigSep_singleton]

/-- A device's buffers after the region. -/
def Vf (c : Dev nD) : Valuation τ sig (Elt F) := Pipeline.afterRegion (dat m c) (Ve m c)

theorem Vf_arg0 (c : Dev nD) : Vf m c main_arg0 = Ve m c main_arg0 := Pipeline.afterRegion_of_not_arr _ _ (by decide)
theorem Vf_arg1 (c : Dev nD) : Vf m c main_arg1 = Ve m c main_arg1 := Pipeline.afterRegion_of_not_arr _ _ (by decide)

theorem whole_emb (y : S1x1024x8192.Idx) : ((cfg0.win 1).blk t0_0).view.emb y = y := by
  funext a
  refine Fin.ext ?_
  show 0 * _ + 1 * (y a).val = (y a).val
  omega

theorem Vf_res (c : Dev nD) : Vf m c main_v2 = oCan (Am m) (Wm m) c := by
  have h : Vf m c (Proc.devRef .tc (Pipeline.arrRef spec0 1)) = (dat m c).arrAt 1 cfg0.N := Pipeline.afterRegion_arr _ _ launch0.win.arr_inj 1
  refine h.trans (funext fun y => ?_)
  have e := congrFun ((dat m c).arrAt_succ 1 t0_0) (((cfg0.win 1).blk t0_0).view.emb y)
  rw [if_pos (flush0_1 t0_0)] at e
  rw [View.write_emb_of_mem _ _ (Finset.mem_univ _), whole_emb] at e
  exact e

abbrev adm : (p : Fin 1) → (pcfgs (F := F) p).Adm := fun p => (cfgs p).toPCfg_adm
abbrev pdats (_ : Fin 1) (c : Dev nD) : Dat τ (Elt F) Unit ℕ UU ℕ cfg0 c := dat m c

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

omit [FloatOps F] in
theorem O₀_pos {c : Dev nD} {g : GSem nD τ sig} {u : Unit} (h : 0 < O₀ c g u) : u ∈ L g ∧ (0 : ℕ) < lv g u := by
  unfold O₀ at h
  rw [Pi.add_apply, Finsupp.add_apply] at h
  rcases Nat.add_pos_iff_pos_or_pos.mp h with h | h
  · obtain ⟨k, -, rfl⟩ := owed_pos h
    exact ⟨by rw [L_tc]; exact Finset.mem_singleton_self _, by rw [lv_r]; omega⟩
  · rw [tallyAt_apply] at h
    split at h
    · next hg => rw [hg.1]; exact ⟨by rw [L_tc]; exact Finset.mem_singleton_self _, Nat.one_pos⟩
    · exact absurd h (Nat.lt_irrefl 0)

omit [FloatOps F] in
theorem scratches (c : Dev nD) : (Pipeline.scopedRest (Ix := Unit) (Name := ℕ) (U := UU) (Lvl := ℕ) (Val := Elt F) (Pipeline.pin (pcfgs (F := F)) adm 0).spec c : sProp 𝕄)
    = iprop(scratch0 c ∗ scratch1 c ∗ scratch2 c) := scopedRest0_eq c

theorem hin (c : Dev nD) : iprop(Pipeline.scopedRest (Pipeline.pin (pcfgs (F := F)) adm 0).spec c ∗ (∃ r, prngReg c r)
      ∗ StableHlo.held (c.tc : Thread nD τ) read (Ve m c) ∗ Xk (Am m) (Wm m) c) ⊢ (dat m c).Φ 0 := by
  rw [show (dat m c).Φ 0 = Φ₀ m c from Φ_first m c, held_read, scratches]
  unfold Φ₀
  iintro ⟨⟨Hb, Hs, Hr⟩, Hp, HW, HX⟩
  isplitl [HX]; · iexact HX
  isplitl [Hb]; · iexact Hb
  isplitl [Hs]; · iexact Hs
  isplitl [Hr]; · iexact Hr
  isplitl [HW]; · iexact HW
  iexact Hp

theorem hout (c : Dev nD) : (dat m c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) read (Vf m c) ∗ Pipeline.ownSems0 osem c ∗ Yk c) := by
  rw [show (dat m c).Φ (Fin.last _) = Φ₁ m c from Φ_last m c, held_read, Vf_arg1, scratches]
  unfold Φ₁ Yk
  iintro ⟨⟨Hv, Ho⟩, Hb, Hs, Hr, HW, Hp⟩
  isplitl [Hb Hs Hr]
  · isplitl [Hb]; · iexact Hb
    isplitl [Hs] <;> iassumption
  isplitl [Hp]; · iexact Hp
  isplitl [HW]; · iexact HW
  isplitl [Ho] <;> iassumption

local notation "ℝ" => Pipeline.RegionSeg (pcfgs (F := F)) adm (pdats m) () defs₀ 𝒱₀ L lv

set_option backward.isDefEq.respectTransparency.types false in
def region : ℝ 0 :=
  Pipeline.RegionSeg.ofTalk (pcfgs (F := F)) adm (pdats m) () defs₀ 𝒱₀ L lv 0 osem osem_facts
    read rest (by decide) kit rfl (fun c => (body m c).loose)
    (fun _ => 0) O₀ (fun c => (owed_first m c).trans (zero_add _).symm) (owed_last m) (fun _ => rfl) (fun _ _ => ite_self _)
    (Ve m) (Vf m) (fun c b hb => by
      obtain rfl : b = Proc.devRef .tc main_arg0 := by revert b; decide
      exact Vf_arg0 m c)
    (Tk (Am m) (Wm m)) Yk (Xk (Am m) (Wm m)) Yk (hopen (Am m) (Wm m)) (hin m) (hout m)
    (fun c => by iintro H; imodintro; iexact H)
    (fun _ => 0)
    ⟨fun c w s => by rw [L_tc]; exact Finset.mem_singleton_self _,
      fun c w s => by
        exact Nat.le_of_eq (lv_low c _ ((by decide : ∀ (w : Fin cfg0.W) (s : Fin (cfg0.win w).nbuf), ((cfg0.win w).sem s).val < 6) w s)),
      fun c t g i h => by
        have e : (dat m c).owed t = if t.val = 0 then O₀ c else 0 := rfl
        change 0 < (dat m c).owed t g i at h
        rw [e] at h
        split at h
        · exact O₀_pos h
        · exact absurd h (Nat.lt_irrefl 0)⟩
    (fun _ => iprop(emp))
    (fun _ _ => rfl) (fun c w => (Pipeline.afterRegion_arr _ _ launch0.win.arr_inj w).symm)

end Cert.KernelIdeal.Own

end
-- ==== Proof.KernelIdeal.Launch.lean ====
module

public import proofs.«01_k».proof.Proof.KernelIdeal.Region

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal.Gen

variable {F : FTy → Type} [FloatOps F]

local notation "𝕄" => MT nD τ sig Unit (Elt F) ℕ UU ℕ

/-! ## Cells and tokens

The barrier cells are funded from their counters; the send and receive cells are funded now and opened in the region. -/

/-- A device's own cells, by kind. -/
def cellSem : Fin 2 ⊕ Fin 8 → SemLoc sig
  | .inl s => .dma (sSem s)
  | .inr g => .dma (rSem g)
theorem cellSem_inj : Function.Injective cellSem := by decide
theorem cellSem_ne_bar (k : Fin 2 ⊕ Fin 8) : cellSem k ≠ .reg barrier0 := by revert k; decide

/-- A device's duties: its barrier round, the round of the send slot that carries group `g`, the round of receive slot `g`. -/
def duty : Unit ⊕ Fin 8 ⊕ Fin 8 → SemLoc sig × ℕ
  | .inl _ => (.reg barrier0, 0)
  | .inr (.inl g) => (.dma (sSem (sl g.val)), g.val / 2)
  | .inr (.inr g) => (.dma (rSem g), 0)
theorem duty_inj : Function.Injective duty := by decide

theorem dev_of_cell {c d : Dev nD} {a b : SemLoc sig} (h : (((c : Thread nD τ), a) : GSem nD τ sig) = ((d : Thread nD τ), b)) : c = d :=
  congrArg (fun g : GSem nD τ sig => g.1.1) h

def barEmb : Dev nD ↪ GSem nD τ sig := ⟨fun c => barCell c, fun _ _ h => dev_of_cell h⟩
def cellEmb : Dev nD × (Fin 2 ⊕ Fin 8) ↪ GSem nD τ sig :=
  ⟨fun p => ((p.1 : Thread nD τ), cellSem p.2), fun _ _ h => Prod.ext (dev_of_cell h) (cellSem_inj (congrArg Prod.snd h))⟩
def dutyEmb : Dev nD × (Unit ⊕ Fin 8 ⊕ Fin 8) ↪ GSem nD τ sig × ℕ × Unit :=
  ⟨fun p => (((p.1 : Thread nD τ), (duty p.2).1), (duty p.2).2, ()), fun _ _ h =>
    Prod.ext (dev_of_cell (congrArg Prod.fst h))
      (duty_inj (Prod.ext (congrArg (fun t : GSem nD τ sig × ℕ × Unit => t.1.2) h) (congrArg (fun t : GSem nD τ sig × ℕ × Unit => t.2.1) h)))⟩

abbrev barCells : Finset (GSem nD τ sig) := Finset.univ.map barEmb
abbrev ownCells : Finset (GSem nD τ sig) := Finset.univ.map cellEmb
abbrev duties : Finset (GSem nD τ sig × ℕ × Unit) := Finset.univ.map dutyEmb

theorem cells_disjoint : Disjoint (barCells : Finset (GSem nD τ sig)) ownCells := by
  rw [Finset.disjoint_left]
  rintro g h₁ h₂
  obtain ⟨c, -, rfl⟩ := Finset.mem_map.mp h₁
  obtain ⟨p, -, h⟩ := Finset.mem_map.mp h₂
  exact cellSem_ne_bar p.2 (congrArg Prod.snd h)

theorem bar_mem (c : Dev nD) : barCell c ∈ (barCells ∪ ownCells : Finset (GSem nD τ sig)) :=
  Finset.mem_union_left _ (Finset.mem_map_of_mem barEmb (Finset.mem_univ c))
theorem s_mem (c : Dev nD) (s : Fin 2) : sCell c s ∈ (barCells ∪ ownCells : Finset (GSem nD τ sig)) :=
  Finset.mem_union_right _ (Finset.mem_map_of_mem cellEmb (Finset.mem_univ (c, (.inl s : Fin 2 ⊕ Fin 8))))
theorem r_mem (c : Dev nD) (g : Fin 8) : rCell c g ∈ (barCells ∪ ownCells : Finset (GSem nD τ sig)) :=
  Finset.mem_union_right _ (Finset.mem_map_of_mem cellEmb (Finset.mem_univ (c, (.inr g : Fin 2 ⊕ Fin 8))))

/-- The two devices of a pair, exchanged. -/
def swap : Dev nD ≃ Dev nD := ⟨peer, peer, peer_peer, peer_peer⟩

/-! ## What each device is dealt -/

section Deal
variable (A : Dev nD → S2048x4096.Idx → Elt F .bf16) (W : Dev nD → S4096x8192.Idx → Elt F .f32)

/-- What every device may consult. -/
def records (κ : GSem nD τ sig → ℕ) : sProp 𝕄 :=
  iprop((bigSep (barCells ∪ ownCells) fun g => cellInv ER (sched A W) (κ g) g) ∗ bigSep barCells fun g => reached ER g 0)
instance records_persistent (κ : GSem nD τ sig → ℕ) : BI.Persistent (records A W κ) := by unfold records; infer_instance

theorem records_inv (κ : GSem nD τ sig → ℕ) {g : GSem nD τ sig} (hg : g ∈ (barCells ∪ ownCells : Finset (GSem nD τ sig))) :
    records A W κ ⊢ cellInv ER (sched A W) (κ g) g := by
  unfold records
  iintro ⟨#H, -⟩
  iapply (show (bigSep (barCells ∪ ownCells) fun g => (cellInv ER (sched A W) (κ g) g : sProp 𝕄)) ⊢ cellInv ER (sched A W) (κ g) g from bigSep_elim hg)
  iexact H
theorem records_reached (κ : GSem nD τ sig → ℕ) (c : Dev nD) : records A W κ ⊢ reached ER (barCell c) 0 := by
  unfold records
  iintro ⟨-, #H⟩
  iapply (show (bigSep barCells fun g => (reached ER g 0 : sProp 𝕄)) ⊢ reached ER (barCell c) 0 from
    bigSep_elim (Finset.mem_map_of_mem barEmb (Finset.mem_univ c)))
  iexact H

/-- What goes to device `c` alone. -/
def share (c : Dev nD) : sProp 𝕄 :=
  iprop(atPos ER (barCell c) 0 ∅ 0
    ∗ ((bigSep Finset.univ fun s : Fin 2 => openTok ER (sCell c s)) ∗ bigSep Finset.univ fun g : Fin 8 => openTok ER (rCell c g))
    ∗ dutyTok ER (barCell (peer c)) 0 () ∗ bigSep Finset.univ fun g : Fin 8 => sendTok c g)
/-- What it may wait with. -/
def credits (c : Dev nD) : sProp 𝕄 :=
  iprop(cred (tallyAt (barCell c) () 1) ∗ bigSep Finset.univ fun g : Fin 8 => cred (tallyAt (rCell c g) () N))

theorem deal (κ : GSem nD τ sig → ℕ) (c : Dev nD) : iprop(records A W κ ∗ share c ∗ credits c) ⊢ Tk A W c := by
  unfold share credits Tk kept
  iintro ⟨#HR, ⟨Hat, ⟨HoS, HoR⟩, Hd, Htok⟩, Hc1, HcN⟩
  iexists κ
  isplitr
  · isplitr; · iapply (records_inv A W κ (bar_mem c)); iexact HR
    isplitr; · iapply (records_inv A W κ (bar_mem (peer c))); iexact HR
    isplitr; · iapply (bigSep_intro_persistent fun s _ => records_inv A W κ (s_mem c s)); iexact HR
    isplitr; · iapply (bigSep_intro_persistent fun g _ => records_inv A W κ (r_mem c g)); iexact HR
    iapply (bigSep_intro_persistent fun g _ => records_inv A W κ (r_mem (peer c) g)); iexact HR
  isplitl [HoS]; · iexact HoS
  isplitl [HoR]; · iexact HoR
  isplitl [HcN]; · iexact HcN
  isplitl [Htok]; · iexact Htok
  isplitl [Hat Hc1]; · isplitl [Hat] <;> iassumption
  isplitl [Hd]; · iexact Hd
  iapply (records_reached A W κ (peer c)); iexact HR

end Deal

omit [FloatOps F] in
theorem duties_deal :
    bigSep duties (fun x => (dutyTok ER x.1 x.2.1 x.2.2 : sProp 𝕄))
      ⊢ bigSep Finset.univ fun c : Dev nD => (iprop(dutyTok ER (barCell (peer c)) 0 () ∗ bigSep Finset.univ fun g : Fin 8 => sendTok c g) : sProp 𝕄) := by
  have h : bigSep duties (fun x => (dutyTok ER x.1 x.2.1 x.2.2 : sProp 𝕄))
      = bigSep Finset.univ fun c : Dev nD => (iprop(dutyTok ER (barCell c) 0 () ∗ (bigSep Finset.univ fun g : Fin 8 => dutyTok ER (sCell c (sl g.val)) (g.val / 2) ())
        ∗ bigSep Finset.univ fun g : Fin 8 => dutyTok ER (rCell c g) 0 ()) : sProp 𝕄) := by
    rw [bigSep_map, bigSep_univ_prod]
    refine bigSep_congr fun c _ => ?_
    rw [bigSep_univ_sum, bigSep_univ_sum, Finset.univ_unique, bigSep_singleton]
    rfl
  rw [h, bigSep_sep', bigSep_sep', bigSep_univ_equiv swap (fun c : Dev nD => (dutyTok ER (barCell c) 0 () : sProp 𝕄)),
    bigSep_univ_equiv swap (fun c : Dev nD => (bigSep Finset.univ fun g : Fin 8 => dutyTok ER (rCell c g) 0 () : sProp 𝕄)), bigSep_sep']
  refine sep_mono_right (bigSep_pair.trans (Entails.of_eq (bigSep_congr fun c _ => ?_)))
  unfold sendTok
  exact (bigSep_sep' ..).symm

/-! ### The launch credit -/

omit [FloatOps F] in
theorem credit_of {k : SemLoc sig} {n : ℕ} (c : Dev nD) (h : ∀ d, O₀ d ((c : Thread nD τ), k) () = if d = peer c then n else 0) :
    tallyOn ((c : Thread nD τ), k) (launchCredit (Pipeline.owing O₀) 0 ((c : Thread nD τ), k)) = (tallyAt ((c : Thread nD τ), k) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem peer_eq_iff (c d : Dev nD) : c = peer d ↔ d = peer c := by
  constructor <;> (intro h; rw [h, peer_peer])

theorem owed_at_r (d c : Dev nD) (g : Fin 8) : owed d 0 (rCell c g) () = if d = peer c then N else 0 := by
  unfold owed
  rw [Finset.sum_apply, Finsupp.finset_sum_apply, Finset.sum_eq_single g]
  · rw [if_pos (Nat.zero_le _), tallyAt_apply]
    refine if_congr ⟨fun h => ?_, fun h => ?_⟩ rfl rfl
    · exact (peer_eq_iff c d).mp (dev_of_cell h.1)
    · exact ⟨by rw [(peer_eq_iff c d).mpr h], rfl⟩
  · intro k _ hk
    rw [if_pos (Nat.zero_le _), tallyAt_apply, if_neg]
    intro h
    exact hk ((by decide : ∀ a b : Fin 8, (SemLoc.dma (rSem a) : SemLoc sig) = .dma (rSem b) → b = a) _ _ (congrArg Prod.snd h.1))
  · exact fun h => absurd (Finset.mem_univ _) h
theorem owed_at_bar (d c : Dev nD) : owed d 0 (barCell c) () = 0 := by
  by_contra h
  obtain ⟨k, -, e⟩ := owed_pos (Nat.pos_of_ne_zero h)
  exact absurd (congrArg Prod.snd e) (by intro h'; cases h')

theorem debt_r (c : Dev nD) (g : Fin 8) (d : Dev nD) : O₀ d (rCell c g) () = if d = peer c then N else 0 := by
  unfold O₀
  have hne : ¬(rCell c g = barCell (peer d) ∧ () = ()) := fun h => by cases congrArg Prod.snd h.1
  rw [Pi.add_apply, Finsupp.add_apply, owed_at_r, tallyAt_apply, if_neg hne, Nat.add_zero]
theorem debt_bar (c d : Dev nD) : O₀ d (barCell c) () = if d = peer c then 1 else 0 := by
  unfold O₀
  rw [Pi.add_apply, Finsupp.add_apply, owed_at_bar, tallyAt_apply, Nat.zero_add]
  refine if_congr ⟨fun h => ?_, fun h => ?_⟩ rfl rfl
  · exact (peer_eq_iff c d).mp (dev_of_cell h.1)
  · exact ⟨by rw [(peer_eq_iff c d).mpr h], rfl⟩

/-- The semaphores a device is paid at by its peer. -/
def waitSem : Unit ⊕ Fin 8 ↪ SemLoc sig := ⟨fun | .inl _ => .reg barrier0 | .inr g => .dma (rSem g), by decide⟩

omit [FloatOps F] in
theorem credits_intro (c : Dev nD) : (Pipeline.launchCred O₀ c : sProp 𝕄) ⊢ credits c := by
  unfold Pipeline.launchCred credits
  rw [bigSep_sdiff_split (Finset.subset_univ (Finset.univ.map waitSem)), bigSep_map, bigSep_univ_sum, Finset.univ_unique, bigSep_singleton]
  show iprop((cred (tallyOn (barCell c) (launchCredit (Pipeline.owing O₀) 0 (barCell c)))
      ∗ bigSep Finset.univ fun g : Fin 8 => cred (tallyOn (rCell c g) (launchCredit (Pipeline.owing O₀) 0 (rCell c g)))) ∗ _) ⊢ _
  rw [credit_of c (debt_bar c), bigSep_congr fun g _ => by rw [credit_of c (debt_r c g)]]
  iintro ⟨H, -⟩
  iexact H

end Cert.KernelIdeal.Own

end
-- ==== Proof.KernelIdeal.Run.lean ====
module

public import proofs.«01_k».proof.Proof.KernelIdeal.Launch
public import Idealize.ShloMosaic.Lib.Quiescent
public import Idealize.ShloMosaic.Adequacy
public import Idealize.ShloMosaic.Init

@[expose] public section

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal.Gen

variable {F : FTy → Type} [FloatOps F]

local notation "𝕄" => MT nD τ sig Unit (Elt F) ℕ UU ℕ

/-! ## The buffers of `main` -/

/-- The buffers a launch deals: the two arguments, the left factor's reshape, the result. -/
def bufs : Finset (DevRef τ sig) := (StableHlo.tcRefs τ sig).filter fun b => ¬ b.isScoped

theorem bufs_cut : bufs = Pipeline.arrRefs (τ := τ) spec0 ∪ rest := by decide
theorem bufs_apart : Disjoint (Pipeline.arrRefs (τ := τ) spec0) rest := by decide

omit [FloatOps F] in
theorem held_bufs (c : Dev nD) (X : Valuation τ sig (Elt F)) : (unscopedBufs c (fun b => X b) : sProp 𝕄) = StableHlo.held (c : Thread nD τ) bufs X := by
  unfold unscopedBufs StableHlo.held bufs StableHlo.tcRefs
  rw [Finset.filter_map, BI.bigSep_map]
  rfl

omit [FloatOps F] in
theorem held_cut (c : Dev nD) (X : Valuation τ sig (Elt F)) : (StableHlo.held (c : Thread nD τ) bufs X : sProp 𝕄)
    = iprop(StableHlo.held (c : Thread nD τ) (Pipeline.arrRefs (τ := τ) spec0) X ∗ StableHlo.held (c : Thread nD τ) rest X) := by
  rw [bufs_cut]; unfold StableHlo.held; exact bigSep_union bufs_apart

omit [FloatOps F] in
theorem held_list (c : Dev nD) (X : Valuation τ sig (Elt F)) : (StableHlo.held (c : Thread nD τ) bufs X : sProp 𝕄)
    = iprop((((c : Thread nD τ).loc main_arg0) ↦{fullShare} X main_arg0) ∗ (((c : Thread nD τ).loc main_arg1) ↦{fullShare} X main_arg1)
      ∗ (((c : Thread nD τ).loc main_v1) ↦{fullShare} X main_v1) ∗ (((c : Thread nD τ).loc main_v2) ↦{fullShare} X main_v2)) := by
  unfold StableHlo.held
  rw [bigSep_eq_bigSepL_of_eq [Proc.devRef .tc main_arg0, Proc.devRef .tc main_arg1, Proc.devRef .tc main_v1, Proc.devRef .tc main_v2] (by decide) (by decide)]
  rfl

omit [FloatOps F] in
theorem unscoped_sems (c : Dev nD) : (unscopedSems0 c : sProp 𝕄) = semVal (barCell c) 0 := by
  unfold unscopedSems0
  rw [show (Finset.univ.filter fun sm : SemLoc sig => ¬ sm.isScoped .tc) = {SemLoc.reg barrier0} from by decide, BI.bigSep_singleton]
theorem unscoped_eq : ∀ sm : SemLoc sig, sm.isScoped .tc = false → sm = .reg barrier0 := by decide

/-! ## The segments -/

variable (m : (ℓ : Loc nD τ sig) → Buf (Elt F) ℓ) (ρ : Dev nD → PrngReg)

/-- A device's buffers at launch. -/
abbrev V₀ (c : Dev nD) : Valuation τ sig (Elt F) := fun b => m (c, b)
/-- What it carries past the host operations. -/
def carried (c : Dev nD) : sProp 𝕄 :=
  iprop(Tk (Am m) (Wm m) c ∗ (∃ r, prngReg c r) ∗ ∃ Wt, owes (c : Thread nD τ) (O₀ c) Wt)

def hostSeg : Pipeline.HostSeg (Ix := Unit) (Name := ℕ) (U := UU) (Lvl := ℕ) (pcfgs (F := F)) defs₀ 𝒱₀ L lv :=
  Pipeline.HostSeg.ofOps _ _ _ _ _ bufs hostOps0
    (fun op h => by
      obtain rfl := List.mem_singleton.mp h
      show ({Proc.devRef .tc main_arg0, Proc.devRef .tc main_v1} : Finset (DevRef τ sig)) ⊆ bufs
      decide)
    (List.forall_iff_forall_mem.mp hostOps0_fresh) (V₀ m) (carried m)

def segs : List (Pipeline.Seg (pcfgs (F := F)) adm (pdats m) () defs₀ 𝒱₀ L lv) := [.host (hostSeg m), .region (region m)]

theorem enter (c : Dev nD) : iprop(StableHlo.held (c : Thread nD τ) bufs (Ve m c) ∗ carried m c) ⊢ (region m).pre c := by
  show _ ⊢ iprop(StableHlo.held (c.tc : Thread nD τ) (Pipeline.arrRefs (τ := τ) spec0) (Ve m c) ∗ (∃ r, prngReg c r)
    ∗ (StableHlo.held (c.tc : Thread nD τ) rest (Ve m c) ∗ emp) ∗ Tk (Am m) (Wm m) c ∗ ∃ Wd, owes (c : Thread nD τ) (0 + O₀ c) Wd)
  rw [held_cut, zero_add]
  unfold carried
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

/-- What a device ends with. -/
def done (c : Dev nD) : sProp 𝕄 := iprop(StableHlo.held (c : Thread nD τ) bufs (Vf m c) ∗ semVal (barCell c) 0)

theorem leave (c : Dev nD) : (region m).post c ⊢ iprop(done m c ∗ ∃ Wt, owes (c : Thread nD τ) (0 : CellTallies nD τ sig Unit) Wt) := by
  show iprop(StableHlo.held (c.tc : Thread nD τ) (Pipeline.arrRefs (τ := τ) spec0) (Vf m c) ∗ (∃ r, prngReg c r)
    ∗ (StableHlo.held (c.tc : Thread nD τ) rest (Vf m c) ∗ emp) ∗ Yk c ∗ ∃ Wd, owes (c : Thread nD τ) (0 : CellTallies nD τ sig Unit) Wd) ⊢ _
  unfold done Yk
  rw [held_cut]
  iintro ⟨Ha, -, ⟨Hr, -⟩, Hv, HO⟩
  isplitr [HO]
  · isplitr [Hv]
    · isplitl [Ha] <;> iassumption
    · iexact Hv
  iexact HO

/-! ## The launch -/

/-- The launch's element: the staging cells', the exchange's, no copy in flight. -/
def u₀ : UU :=
  (initOf (Pipeline.cells (Pipeline.pin (pcfgs (F := F)) adm) cellOf_inj) (Pipeline.launchToks (Pipeline.pin (pcfgs (F := F)) adm) cellOf_inj),
    (launchOf barCells ownCells duties, (1 : Counters)))

/-- The exchange's element, held by device 0 until the devices share it out. -/
def parked (c : Dev nD) : sProp 𝕄 := if c = 0 then BI.own (ER (launchOf barCells ownCells duties)) else iprop(emp)
omit [FloatOps F] in
theorem parked_eq : bigSep Finset.univ (parked (F := F)) = BI.own (ER (launchOf barCells ownCells duties)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

omit [FloatOps F] in
theorem u₀_split : (ownU (u₀ (F := F)) : sProp 𝕄) ⊢ |={Set.univ}=> iprop(
    BI.own (EP (initOf (Pipeline.cells (Pipeline.pin (pcfgs (F := F)) adm) cellOf_inj) (Pipeline.launchToks (Pipeline.pin (pcfgs (F := F)) adm) cellOf_inj)))
      ∗ bigSep Finset.univ (parked (F := F))) := by
  rw [parked_eq]
  unfold u₀
  iintro Hu
  ihave H := (ownU_pair _ _) $$ Hu
  icases H with ⟨HP, HX⟩
  ihave H' := (own_pair_emb _ _ _) $$ HX
  icases H' with ⟨HE, -⟩
  imodintro
  isplitl [HP]; · iexact HP
  iexact HE

/-- What a device holds at the launch that is no part of the exchange. -/
def apart (c : Dev nD) : sProp 𝕄 :=
  iprop(credits c ∗ StableHlo.held (c : Thread nD τ) bufs (V₀ m c) ∗ (∃ r, prngReg c r) ∗ ∃ Wt, owes (c : Thread nD τ) (O₀ c) Wt)

/-- What the host operations start from. -/
def begun (c : Dev nD) : sProp 𝕄 := iprop(StableHlo.held (c : Thread nD τ) bufs (V₀ m c) ∗ carried m c)

theorem begin_with (κ : GSem nD τ sig → ℕ) (c : Dev nD) : iprop(records (Am m) (Wm m) κ ∗ (share c ∗ apart m c)) ⊢ begun m c := by
  unfold apart begun carried
  iintro ⟨HR, Hs, Hc, Hh, Hp, HO⟩
  isplitl [Hh]; · iexact Hh
  isplitl [HR Hs Hc]
  · iapply (deal (Am m) (Wm m) κ c)
    isplitl [HR]; · iexact HR
    isplitl [Hs] <;> iassumption
  isplitl [Hp] <;> iassumption

/-- Everything a device holds at the launch. -/
abbrev launched (c : Dev nD) : sProp 𝕄 :=
  iprop(unscopedBufs c (fun b => m ((c : Thread nD τ).loc b)) ∗ unscopedSems0 c
    ∗ owes (c : Thread nD τ) (O₀ c) ∅ ∗ Pipeline.launchCred O₀ c ∗ prngReg c (ρ c) ∗ parked c)

omit [FloatOps F] in
theorem launched_split (c : Dev nD) : launched m ρ c ⊢ iprop(apart m c ∗ (semVal (barCell c) 0 ∗ parked c)) := by
  unfold launched
  rw [show unscopedBufs c (fun b => m ((c : Thread nD τ).loc b)) = StableHlo.held (c : Thread nD τ) bufs (V₀ m c) from held_bufs c (V₀ m c), unscoped_sems]
  unfold apart
  iintro ⟨Hh, Hv, HO, Hcr, Hp, HG⟩
  isplitl [Hh HO Hcr Hp]
  · isplitl [Hcr]; · iapply (credits_intro c); iexact Hcr
    isplitl [Hh]; · iexact Hh
    isplitl [Hp]; · iexists (ρ c); iexact Hp
    iexists ∅; iexact HO
  isplitl [Hv] <;> iassumption

omit [FloatOps F] in
theorem opens_deal : bigSep ownCells (fun g => (openTok ER g : sProp 𝕄))
    ⊢ bigSep Finset.univ fun c : Dev nD => (iprop((bigSep Finset.univ fun s : Fin 2 => openTok ER (sCell c s)) ∗ bigSep Finset.univ fun g : Fin 8 => openTok ER (rCell c g)) : sProp 𝕄) :=
  Entails.of_eq (by
    rw [bigSep_map, bigSep_univ_prod]
    exact bigSep_congr fun c _ => bigSep_univ_sum _)

theorem begin_all : iprop((bigSep Finset.univ fun c : Dev nD => launched m ρ c) ∗ levAts L lv) ⊢ (|={Set.univ}=> bigSep Finset.univ (begun m) : sProp 𝕄) := by
  iintro ⟨H, -⟩
  ihave H1 := (show (bigSep Finset.univ fun c : Dev nD => launched m ρ c) ⊢ (bigSep Finset.univ fun c : Dev nD => iprop(apart m c ∗ (semVal (barCell c) 0 ∗ parked c)) : sProp 𝕄) from
    bigSep_mono fun c _ => launched_split m ρ c) $$ H
  ihave H2 := bigSep_unpair $$ H1; icases H2 with ⟨HA, H3⟩
  ihave H4 := bigSep_unpair $$ H3; icases H4 with ⟨Hv, HG⟩
  ihave Hu := (Entails.of_eq (parked_eq (F := F))) $$ HG
  imod (Rounds.fund_launch ER (sched (Am m) (Wm m)) cells_disjoint (fun g _ h => h) duties) $$ [Hv Hu] with ⟨%κ, -, #Hinv, #Hr, Hat, Hopen, Htok⟩
  · isplitl [Hv]
    · iapply (Entails.of_eq (bigSep_map (s := Finset.univ) barEmb (Φ := fun g : GSem nD τ sig => (semVal g 0 : sProp 𝕄))).symm); iexact Hv
    · iexact Hu
  imodintro
  iapply (bigSep_with_persistent (R := records (Am m) (Wm m) κ) (Φ := fun c => iprop(share c ∗ apart m c)) fun c _ => begin_with m κ c)
  isplitr
  · unfold records
    isplitr; · iexact Hinv
    iexact Hr
  iapply bigSep_pair
  isplitr [HA]
  · unfold share
    iapply bigSep_pair
    isplitl [Hat]
    · iapply (Entails.of_eq (bigSep_map (s := Finset.univ) barEmb (Φ := fun g : GSem nD τ sig => (atPos ER g 0 ∅ 0 : sProp 𝕄)))); iexact Hat
    iapply bigSep_pair
    isplitl [Hopen]; · iapply (opens_deal (F := F)); iexact Hopen
    iapply (duties_deal (F := F)); iexact Htok
  · iexact HA

/-! ## The run -/

/-- What a final memory holds on device `c`. -/
def Final (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1))
    ∧ s.mem ((c : Thread nD τ).loc main_v2) = oCan (Am m) (Wm m) c

theorem final_read (c : Dev nD) (s' : Phys nD τ sig (Elt F)) :
    iprop(done m c ∗ SI s') ⊢ (|={Set.univ}=> iprop(⌜Final m c s'.mem ∧ s'.mem.sem (barCell c) = 0⌝ ∗ SI s') : sProp 𝕄) := by
  unfold done
  rw [held_list, Vf_arg0, Vf_arg1, Vf_res]
  iintro ⟨⟨⟨H0, H1, -, H2⟩, Hb⟩, HSI⟩
  icombine HSI H0 gives %h0
  icombine HSI H1 gives %h1
  icombine HSI H2 gives %h2
  icombine HSI Hb gives %hb
  imodintro
  isplitr
  · ipureintro
    exact ⟨⟨⟨(Buf.eq_of_forall_mem_univ h0).trans (V_main_arg0 m c), (Buf.eq_of_forall_mem_univ h1).trans (V_main_arg1 m c)⟩,
      Buf.eq_of_forall_mem_univ h2⟩, by simpa using hb⟩
  iexact HSI

set_option backward.isDefEq.respectTransparency.types false in
/-- From any memory with its counters at zero, every execution of `main` on the four devices terminates; its final state has the
    arguments unchanged, the result at the two products' sum, and every counter at zero. -/
theorem run : θ_run (defs (F := F)) (onTc (τ := τ) (main (F := F))) ⟨m, fun _ => 0, ρ⟩
    (fun r => (∀ c : Dev nD, Final m c r.2) ∧ r.2.sem = fun _ => 0) :=
  Pipeline.θ_run_regions_kit_sems (pcfgs (F := F)) adm (pdats m) () cellOf_inj EP defs₀ 𝒱₀ L lv m ρ main (segs m)
    (fun c Q => by rw [main_segs adm (pdats m) () 𝒱₀ L lv (hostSeg m) (region m) rfl c]; exact BI.Entails.refl _)
    (by simp only [segs, Pipeline.Seg.pipes_host, Pipeline.Seg.pipes_region, Pipeline.Seg.pipes_nil]; decide)
    (O₀ := O₀) (hL := L_of_ne) (G := parked) (u₀ := u₀) (hu₀ := u₀_split)
    (T₀ := begun m) (Tₙ := done m)
    (hch := ⟨fun c => .rfl, fun c => enter m c, fun c => leave m c⟩)
    (hinit := begin_all m ρ)
    (QY := fun c s => Final m c s ∧ s.sem (barCell c) = 0)
    (hfin := final_read m)
    (hQ := fun s h hs => ⟨fun c => (h c).1, sem_eq_zero hs fun c sm hsm => by
      obtain rfl := unscoped_eq sm hsm
      exact (h c).2⟩)

end Cert.KernelIdeal.Own

end
-- ==== Proof.Value.Products.lean ====
module

public import proofs.«01_k».proof.Proof.KernelIdeal.Contents
public import proofs.«01_k».proof.Proof.Gen.ReferenceIdeal.Run
public import Idealize.ShloMosaic.Lib.Pointwise

@[expose] public section

noncomputable section

namespace Cert.Proof.Value

open Idealize.ShloMosaic
open scoped BigOperators

/-! ## The kernel's payloads at an index -/

section Kernel
open Cert.KernelIdeal Cert.KernelIdeal.Gen

/-- A block of the product of the half sent to the peer: row `r`, column `q` is the sum over `k` of the factors' products. -/
theorem product_apply (v : Vec Ideal S1x4096x256 .f32) (a : Vec Ideal S1024x4096 .bf16) (r : Fin 1024) (q : Fin 256) :
    k0_pay2 v a (ValueIdx.ix3 (n0 := 1) 0 r q)
      = ∑ k : Fin 4096, a (ValueIdx.ix2 r k) * v (ValueIdx.ix3 (n0 := 1) 0 k q) := by
  pointwise [k0_pay2, k0_pay1]
  exact Finset.sum_congr rfl fun k _ => by rw [ix2_eq_valueIdx, ix3_eq_valueIdx]

/-- The same of the half kept. -/
theorem kept_apply (v : Vec Ideal S1x4096x256 .f32) (a : Vec Ideal S1024x4096 .bf16) (r : Fin 1024) (q : Fin 256) :
    k0_pay25 (k0_pay3 v a) (ValueIdx.ix3 (n0 := 1) 0 r q)
      = ∑ k : Fin 4096, a (ValueIdx.ix2 r k) * v (ValueIdx.ix3 (n0 := 1) 0 k q) := by
  pointwise [k0_pay25, k0_pay3, k0_pay1]
  exact Finset.sum_congr rfl fun k _ => by rw [ix2_eq_valueIdx, ix3_eq_valueIdx]

/-- What is stored on a landing: the kept product plus what landed, entry by entry. -/
theorem sum_apply (a b : Vec Ideal S1x1024x1024 .bf16) (r : Fin 1024) (q : Fin 1024) :
    k0_pay27 a b (ValueIdx.ix3 (n0 := 1) 0 r q) = a (ValueIdx.ix3 (n0 := 1) 0 r q) + b (ValueIdx.ix3 (n0 := 1) 0 r q) := by
  pointwise [k0_pay27]

end Kernel

/-! ## The reference's result at an index -/

section Reference
open Cert.ReferenceIdeal Cert.ReferenceIdeal.Gen

/-- The reference's result: the attention output, its last two axes joined, times the weights. -/
def ref (O : S1x2048x64x128.Idx → EReal) (W : S8192x8192.Idx → EReal) : S1x2048x8192.Idx → EReal :=
  truncf (F := Ideal) .bf16 (Host.dotGeneral (F := Ideal) (φ₁ := .bf16) (φ₂ := .f32) dot_S1x2048x8192_S8192x8192_S1x2048x8192_2_0_01_1_n_n none
    (shapeCast _ O shapeCasts_S1x2048x64x128_S1x2048x8192) W) bitsLt_bf16_f32

/-- Row `r`, column `n` of it is the sum over the 8192 joined positions, position `k` being head `k / 128`, entry `k % 128`. -/
theorem ref_apply (O : S1x2048x64x128.Idx → EReal) (W : S8192x8192.Idx → EReal) (r : Fin 2048) (n : Fin 8192) :
    ref O W (ValueIdx.ix3 (n0 := 1) 0 r n)
      = ∑ k : Fin 8192, O (ValueIdx.ix4 (n0 := 1) (n2 := 64) (n3 := 128) 0 r ⟨k.val / 128, by omega⟩ ⟨k.val % 128, by omega⟩) * W (ValueIdx.ix2 k n) := by
  pointwise [ref]
  exact Finset.sum_congr rfl fun k _ => by rw [ix4_eq_valueIdx, ix2_eq_valueIdx]

end Reference

end Cert.Proof.Value

end
-- ==== Proof.Value.Result.lean ====
module

public import proofs.«01_k».proof.Proof.Value.Products
public import proofs.«01_k».proof.Proof.KernelIdeal.Region
public import Idealize.ShloMosaic.Lib.Layout

@[expose] public section

noncomputable section

namespace Cert.Proof.Value

open Idealize.ShloMosaic Idealize.ShloMosaic.TcCoe
open Cert.KernelIdeal Cert.KernelIdeal.Gen Cert.KernelIdeal.Own
open scoped BigOperators

/-! ## The kernel's factors -/

/-- The staged left factor is the argument with its last two axes joined. -/
theorem Am_apply (m : (ℓ : Loc nD τ sig) → Buf (Elt Ideal) ℓ) (c : Dev nD) (r : Fin 2048) (k : Fin 4096) :
    Am m c (ValueIdx.ix2 r k)
      = (m ((c : Thread nD τ).loc main_arg0) : S1x2048x32x128.Idx → EReal) (ValueIdx.ix4 (n0 := 1) (n2 := 32) (n3 := 128) 0 r ⟨k.val / 128, by omega⟩ ⟨k.val % 128, by omega⟩) := by
  have hV : V m c main_v1 = shapeCast S2048x4096 (m ((c : Thread nD τ).loc main_arg0) : S1x2048x32x128.Idx → EReal) shapeCasts_S1x2048x32x128_S2048x4096 := by
    show StableHlo.after hostOps0 (fun b => m (c, b)) (Proc.devRef .tc main_v1) = _
    after_results
    rfl
  have hA : Am m c (ValueIdx.ix2 r k) = (V m c main_v1 : S2048x4096.Idx → EReal) (ValueIdx.ix2 r k) := by
    show (V m c main_v1 : S2048x4096.Idx → EReal) _ = _
    congr 1
    funext a
    fin_cases a
    · apply Fin.ext; show 0 * _ + 1 * r.val = r.val; omega
    · apply Fin.ext; show 0 * _ + 1 * k.val = k.val; omega
  rw [hA, hV]
  refine shapeCast_apply (s := S1x2048x32x128) (t := S2048x4096) _ _ _ _ ?_
  rw [Shape.rowMajor_val_two, Shape.rowMajor_val_four]
  show ((0 * 2048 + r.val) * 32 + k.val / 128) * 128 + k.val % 128 = r.val * 4096 + k.val
  omega

/-! ## The result at an index -/

variable (A : Dev nD → S2048x4096.Idx → EReal) (W : Dev nD → S4096x8192.Idx → EReal)

/-- The product a device keeps: its own row half times its weights. -/
theorem keep_apply (d : Dev nD) (r : Fin 1024) (n : Fin 8192) :
    keepT (F := Ideal) A W d r n.val = ∑ k : Fin 4096, A d (ValueIdx.ix2 ⟨1024 * (d.val % 2) + r.val, by omega⟩ k) * W d (ValueIdx.ix2 k n) := by
  unfold keepT keepV
  refine (kept_apply _ _ _ _).trans (Finset.sum_congr rfl fun k _ => ?_)
  unfold half wVec
  congr 2
  · exact congrFun (congrArg ValueIdx.ix2 (Fin.ext (by show (1024 * (d.val % 2) + r.val) % 2048 = 1024 * (d.val % 2) + r.val; omega))) k
  · exact congrArg (ValueIdx.ix2 k) (Fin.ext (by show (256 * (n.val / 256) + n.val % 256) % 8192 = n.val; omega))

/-- The product a device sends: the other row half times its weights. -/
theorem send_apply (d : Dev nD) (r : Fin 1024) (n : Fin 8192) :
    sendT (F := Ideal) A W d r n.val = ∑ k : Fin 4096, A d (ValueIdx.ix2 ⟨1024 * ((d.val % 2 + 1) % 2) + r.val, by omega⟩ k) * W d (ValueIdx.ix2 k n) := by
  unfold sendT sendV
  refine (product_apply _ _ _ _).trans (Finset.sum_congr rfl fun k _ => ?_)
  unfold half wVec
  congr 2
  · exact congrFun (congrArg ValueIdx.ix2 (Fin.ext (by
      show (1024 * ((d.val % 2 + 1) % 2) + r.val) % 2048 = 1024 * ((d.val % 2 + 1) % 2) + r.val; omega))) k
  · exact congrArg (ValueIdx.ix2 k) (Fin.ext (by show (256 * (n.val / 256) + n.val % 256) % 8192 = n.val; omega))

/-- What a device ends with: the product it keeps plus the product its peer sent. -/
theorem fin_apply (d : Dev nD) (r : Fin 1024) (n : Fin 8192) :
    finT (F := Ideal) A W d r n.val = keepT (F := Ideal) A W d r n.val + sendT (F := Ideal) A W (peer d) r n.val := by
  unfold finT
  refine (sum_apply _ _ _ _).trans ?_
  have e : 1024 * (n.val / 1024) + n.val % 1024 = n.val := by omega
  show keepT (F := Ideal) A W d r (1024 * (n.val / 1024) + n.val % 1024) + sendT (F := Ideal) A W (peer d) r (1024 * (n.val / 1024) + n.val % 1024) = _
  rw [e]

/-! ## Against the whole arrays -/

/-- A sum over 8192 positions is the sum over half `y` plus the sum over the other half. -/
theorem sum_halves (g : ℕ → EReal) (y : ℕ) (hy : y < 2) :
    (∑ k : Fin 4096, g (4096 * y + k.val)) + (∑ k : Fin 4096, g (4096 * ((y + 1) % 2) + k.val)) = ∑ k : Fin 8192, g k.val := by
  have h : ∑ k : Fin 8192, g k.val = (∑ k : Fin 4096, g k.val) + ∑ k : Fin 4096, g (4096 + k.val) :=
    Fin.sum_univ_add (a := 4096) (b := 4096) fun k => g k.val
  rw [h]
  rcases (by omega : y = 0 ∨ y = 1) with rfl | rfl
  · simp only [Nat.mul_zero, Nat.zero_add, Nat.mul_one, Nat.reduceMod, Nat.reduceMul]
  · rw [add_comm]
    simp only [Nat.mul_zero, Nat.zero_add, Nat.mul_one, Nat.reduceMod, Nat.reduceAdd, Nat.reduceMul]

/-- A device's place along the mesh's second axis is its number's last bit. -/
theorem mesh_second (c : Fin 4) : Layout.meshLin [2, 2] c.val [1] = c.val % 2 := by revert c; decide
/-- An axis that is not cut has one block. -/
theorem mesh_none (c : Fin 4) : Layout.meshLin [2, 2] c.val [] = 0 := by revert c; decide

open Cert.ReferenceIdeal (S1x2048x64x128 S8192x8192 S1x2048x8192)
variable (O : S1x2048x64x128.Idx → EReal) (Wo : S8192x8192.Idx → EReal)

/-- Device `c`'s block of the attention output: the 32 heads of its place along the mesh's second axis. -/
theorem left_block (c : Dev nD) (r : Fin 2048) (h : Fin 32) (e : Fin 128) :
    (Layout.blockN ⟨4, ![1, 2048, 32, 128]⟩ ⟨4, ![1, 2048, 64, 128]⟩ (Layout.meshBlock [2, 2] ![[], [], [1], []] c) O) (ValueIdx.ix4 (n0 := 1) 0 r h e)
      = O (ValueIdx.ix4 (n0 := 1) 0 r ⟨32 * (c.val % 2) + h.val, by omega⟩ e) := by
  rw [Layout.blockN_apply]
  congr 1
  funext a
  apply Fin.ext
  rw [Layout.TilesN.idx_val]
  fin_cases a
  · show Layout.meshLin [2, 2] c.val [] * 1 + 0 = 0; rw [mesh_none]
  · show Layout.meshLin [2, 2] c.val [] * 2048 + r.val = r.val; rw [mesh_none]; omega
  · show Layout.meshLin [2, 2] c.val [1] * 32 + h.val = 32 * (c.val % 2) + h.val; rw [mesh_second]; omega
  · show Layout.meshLin [2, 2] c.val [] * 128 + e.val = e.val; rw [mesh_none]; omega

/-- Device `c`'s block of the weights: the 4096 rows of those heads. -/
theorem right_block (c : Dev nD) (k : Fin 4096) (n : Fin 8192) :
    (Layout.blockN ⟨2, ![4096, 8192]⟩ ⟨2, ![8192, 8192]⟩ (Layout.meshBlock [2, 2] ![[1], []] c) Wo) (ValueIdx.ix2 k n)
      = Wo (ValueIdx.ix2 ⟨4096 * (c.val % 2) + k.val, by omega⟩ n) := by
  rw [Layout.blockN_apply]
  congr 1
  funext a
  apply Fin.ext
  rw [Layout.TilesN.idx_val]
  fin_cases a
  · show Layout.meshLin [2, 2] c.val [1] * 4096 + k.val = 4096 * (c.val % 2) + k.val; rw [mesh_second]; omega
  · show Layout.meshLin [2, 2] c.val [] * 8192 + n.val = n.val; rw [mesh_none]; omega

/-- Device `c`'s block of a whole result: the 1024 rows of its place along the mesh's second axis. -/
theorem result_block (c : Dev nD) (v : S1x2048x8192.Idx → EReal) (x : S1x1024x8192.Idx) :
    (Layout.blockN ⟨3, ![1, 1024, 8192]⟩ ⟨3, ![1, 2048, 8192]⟩ (Layout.meshBlock [2, 2] ![[], [1], []] c) v) x
      = v (ValueIdx.ix3 (n0 := 1) 0 ⟨1024 * (c.val % 2) + (x 1).val, by have : (x 1).val < 1024 := (x 1).isLt; omega⟩ (x 2)) := by
  rw [Layout.blockN_apply]
  congr 1
  funext a
  apply Fin.ext
  rw [Layout.TilesN.idx_val]
  fin_cases a
  · have : (x 0).val < 1 := (x 0).isLt
    show Layout.meshLin [2, 2] c.val [] * 1 + (x 0).val = 0; rw [mesh_none]; omega
  · show Layout.meshLin [2, 2] c.val [1] * 1024 + (x 1).val = 1024 * (c.val % 2) + (x 1).val; rw [mesh_second]; omega
  · show Layout.meshLin [2, 2] c.val [] * 8192 + (x 2).val = (x 2).val; rw [mesh_none]; omega

/-- The `K`-th product of row `r` and column `n`. -/
def term (r : Fin 2048) (n : Fin 8192) (K : ℕ) : EReal :=
  O (ValueIdx.ix4 (n0 := 1) (n2 := 64) (n3 := 128) 0 r ⟨K / 128 % 64, by omega⟩ ⟨K % 128, by omega⟩) * Wo (ValueIdx.ix2 ⟨K % 8192, by omega⟩ n)

/-- The reference's entry is the sum of its 8192 products. -/
theorem ref_terms (r : Fin 2048) (n : Fin 8192) : ref O Wo (ValueIdx.ix3 (n0 := 1) 0 r n) = ∑ k : Fin 8192, term O Wo r n k.val := by
  rw [ref_apply]
  refine Finset.sum_congr rfl fun k _ => ?_
  unfold term
  congr 2
  · exact congrFun (congrArg (ValueIdx.ix4 (n0 := 1) 0 r) (Fin.ext (by show k.val / 128 = k.val / 128 % 64; omega))) _
  · exact congrFun (congrArg ValueIdx.ix2 (Fin.ext (by show k.val = k.val % 8192; omega))) _

section Blocks
variable (m : (ℓ : Loc nD τ sig) → Buf (Elt Ideal) ℓ)
  (hO : ∀ c : Dev nD, m ((c.tc : Thread nD τ).loc main_arg0)
    = Layout.blockN ⟨4, ![1, 2048, 32, 128]⟩ ⟨4, ![1, 2048, 64, 128]⟩ (Layout.meshBlock [2, 2] ![[], [], [1], []] c) O)
  (hW : ∀ c : Dev nD, m ((c.tc : Thread nD τ).loc main_arg1)
    = Layout.blockN ⟨2, ![4096, 8192]⟩ ⟨2, ![8192, 8192]⟩ (Layout.meshBlock [2, 2] ![[1], []] c) Wo)
include hO hW

/-- A device's product of row `r` and column `n` at its own `k` is the whole arrays' at its half. -/
theorem factor_term (d : Dev nD) (r : Fin 2048) (k : Fin 4096) (n : Fin 8192) :
    (Am m d (ValueIdx.ix2 r k) : EReal) * (Wm m d (ValueIdx.ix2 k n) : EReal) = term O Wo r n (4096 * (d.val % 2) + k.val) := by
  have h2 : Wm m d = m ((d.tc : Thread nD τ).loc main_arg1) := V_main_arg1 m d
  rw [Am_apply, h2, hO d, hW d, left_block, right_block]
  unfold term
  congr 2
  · have e1 : (⟨32 * (d.val % 2) + k.val / 128, by omega⟩ : Fin 64) = ⟨(4096 * (d.val % 2) + k.val) / 128 % 64, by omega⟩ := Fin.ext (by show 32 * (d.val % 2) + k.val / 128 = (4096 * (d.val % 2) + k.val) / 128 % 64; omega)
    have e2 : (⟨k.val % 128, by omega⟩ : Fin 128) = ⟨(4096 * (d.val % 2) + k.val) % 128, by omega⟩ := Fin.ext (by show k.val % 128 = (4096 * (d.val % 2) + k.val) % 128; omega)
    rw [← e1, ← e2]
  · exact congrFun (congrArg ValueIdx.ix2 (Fin.ext (by show 4096 * (d.val % 2) + k.val = (4096 * (d.val % 2) + k.val) % 8192; omega))) _

/-- Each device ends with its block of the reference's result. -/
theorem result_eq (c : Dev nD) :
    oCan (F := Ideal) (Am m) (Wm m) c
      = Layout.blockN ⟨3, ![1, 1024, 8192]⟩ ⟨3, ![1, 2048, 8192]⟩ (Layout.meshBlock [2, 2] ![[], [1], []] c) (ref O Wo) := by
  funext x
  have h1 : (x 1).val < 1024 := (x 1).isLt
  have hp : (peer c).val % 2 = (c.val % 2 + 1) % 2 := by
    show (2 * (c.val / 2) + (c.val % 2 + 1) % 2) % 2 = _; omega
  have hc : ((peer c).val % 2 + 1) % 2 = c.val % 2 := by omega
  rw [result_block]
  refine Eq.trans ?_ (ref_terms O Wo ⟨1024 * (c.val % 2) + (x 1).val, by omega⟩ (x 2)).symm
  rw [← sum_halves _ (c.val % 2) (by omega)]
  refine (fin_apply (Am m) (Wm m) c (x 1) (x 2)).trans ?_
  refine congrArg₂ (· + ·) ((keep_apply (Am m) (Wm m) c (x 1) (x 2)).trans (Finset.sum_congr rfl fun k _ => ?_))
    ((send_apply (Am m) (Wm m) (peer c) (x 1) (x 2)).trans (Finset.sum_congr rfl fun k _ => ?_))
  · exact factor_term O Wo m hO hW c _ k (x 2)
  · refine (factor_term O Wo m hO hW (peer c) _ k (x 2)).trans ?_
    have e : 4096 * ((peer c).val % 2) + k.val = 4096 * ((c.val % 2 + 1) % 2) + k.val := by omega
    refine congrArg₂ (fun r K => term O Wo r (x 2) K) (Fin.ext ?_) e
    show 1024 * (((peer c).val % 2 + 1) % 2) + (x 1).val = 1024 * (c.val % 2) + (x 1).val
    omega

end Blocks

end Cert.Proof.Value

end
-- ==== Proof.lean ====
/-
  The proof of `Cert.Claim` (Defs.lean beside this file): the frames of the kernel at the bit-exact and the ideal
  instance and of the reference, all with every semaphore counter at zero at the end, `preserves`, and that the
  kernel at the ideal instance leaves on each device that device's block of the reference's result.

  The runs of the kernel are Proof/Kernel/Run.lean and Proof/KernelIdeal/Run.lean; what the kernel's result is, element
  by element, is Proof/Value/Result.lean. This file reads the claims off them.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Result
public import Idealize.ShloMosaic.Lib.Quiescent

@[expose] public section

noncomputable section

namespace Cert.Proof

open Idealize.ShloMosaic Idealize.ShloMosaic.TcCoe Idealize.SL.Sem

/-- The kernel at the bit-exact instance ends with its arguments untouched and every counter at zero. -/
theorem kernel_frame : Cert.quiescent_Kernel (hKernel := Cert.Kernel.Gen.facts) := fun m g _ =>
  (θ_run _ _ _).mono (fun _ h => ⟨fun c => (h.1 c).1, h.2⟩) (Cert.Kernel.Own.run m g)

/-- So does the kernel at the ideal instance, -/
theorem kernelIdeal_frame : Cert.quiescent_KernelIdeal (hKernelIdeal := Cert.KernelIdeal.Gen.facts) := fun m g _ =>
  (θ_run _ _ _).mono (fun _ h => ⟨fun c => (h.1 c).1, h.2⟩) (Cert.KernelIdeal.Own.run m g)

/-- and the reference, which declares no semaphore. -/
theorem reference_frame : Cert.quiescent_ReferenceIdeal (hReferenceIdeal := Cert.ReferenceIdeal.Gen.facts) := fun m g _ =>
  (θ_run _ _ _).mono (fun r h => ⟨fun c => (h c).2, sem_eq_zero_of_no_sems rfl r.2⟩) (Cert.ReferenceIdeal.Value.run m g)

/-- On the extended reals the devices end with the blocks of the reference's result. -/
theorem kernel_reference :
    Cert.algebraic_KernelIdeal_ReferenceIdeal (hKernelIdeal := Cert.KernelIdeal.Gen.facts)
      (hReferenceIdeal := Cert.ReferenceIdeal.Gen.facts) := fun m g m' g' _ hB =>
  ⟨Value.ref (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run _ _ _).mono (fun _ h c => ⟨(h.1 c).2.trans (Value.result_eq _ _ m (fun d => (hB d).1) (fun d => (hB d).2) c),
      (h.1 c).1.1, (h.1 c).1.2⟩) (Cert.KernelIdeal.Own.run m g),
    (θ_run _ _ _).mono (fun _ h => h 0) (Cert.ReferenceIdeal.Value.run m' g')⟩

theorem claim : Cert.Claim :=
  ⟨Cert.Kernel.Gen.facts, Cert.KernelIdeal.Gen.facts, Cert.ReferenceIdeal.Gen.facts,
    kernel_frame, kernelIdeal_frame, reference_frame, trivial, kernel_reference⟩

end Cert.Proof

end
